-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![16384, 1024]⟩ ⟨2, ![65536, 1024]⟩ (Layout.meshBlock [2, 2, 4] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x1024 : Shape := ⟨2, ![16384, 1024]⟩
abbrev S3x4x256x1024 : Shape := ⟨4, ![3, 4, 256, 1024]⟩
abbrev S1024x1024 : Shape := ⟨2, ![1024, 1024]⟩
abbrev S12 : Shape := ⟨1, ![12]⟩
abbrev S6 : Shape := ⟨1, ![6]⟩
abbrev S16 : Shape := ⟨1, ![16]⟩
abbrev S8 : Shape := ⟨1, ![8]⟩
abbrev S2 : Shape := ⟨1, ![2]⟩
abbrev S_ : Shape := ⟨0, ![]⟩
abbrev S1 : Shape := ⟨1, ![1]⟩
abbrev S1x1x256x1024 : Shape := ⟨4, ![1, 1, 256, 1024]⟩
abbrev S256x1024 : Shape := ⟨2, ![256, 1024]⟩
abbrev S512x1024 : Shape := ⟨2, ![512, 1024]⟩

abbrev nBuf : Space → Nat
  | .hbm => 2
  | .vmem => 3
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .local _ .vmem, ⟨0, _⟩ => ⟨S3x4x256x1024, .f32⟩
  | .local _ .vmem, ⟨1, _⟩ => ⟨S1024x1024, .f32⟩
  | .local _ .vmem, ⟨2, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 86 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | _ => false

abbrev sig : RefSig :=
  (ofTc nBuf bufTy 1 86 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_25 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_24 : BitVec 32 := 8#32
  let v44 : BitVec 32 := Scalar.muli v2 c8_i32_24
  let v45 : BitVec 32 := Scalar.addi c0_i32_25 v44
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_26 : BitVec 32 := 4#32
  let v46 : BitVec 32 := Scalar.muli v5 c4_i32_26
  let v47 : BitVec 32 := Scalar.addi v45 v46
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_8 : BitVec 32 := 4#32
  let v20 : BitVec 32 := Scalar.addi v8 c4_i32_8
  let c1_i32_9 : BitVec 32 := 1#32
  let v21 : BitVec 32 := Scalar.subi v20 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c1_i32_27 : BitVec 32 := 1#32
  let v48 : BitVec 32 := Scalar.muli v31 c1_i32_27
  let v49 : BitVec 32 := Scalar.addi v47 v48
  v49.toNat
def k0_dev2 (d0 : Dev nD) : Nat :=
  let c0_i32_30 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_29 : BitVec 32 := 8#32
  let v50 : BitVec 32 := Scalar.muli v2 c8_i32_29
  let v51 : BitVec 32 := Scalar.addi c0_i32_30 v50
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_31 : BitVec 32 := 4#32
  let v52 : BitVec 32 := Scalar.muli v5 c4_i32_31
  let v53 : BitVec 32 := Scalar.addi v51 v52
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_32 : BitVec 32 := 1#32
  let v54 : BitVec 32 := Scalar.muli v19 c1_i32_32
  let v55 : BitVec 32 := Scalar.addi v53 v54
  v55.toNat
def k0_dev3 (d0 : Dev nD) : Nat :=
  let c0_i32_35 : BitVec 32 := 0#32
  let c1_i32_21 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v42 : BitVec 32 := Scalar.subi c1_i32_21 v2
  let c8_i32_34 : BitVec 32 := 8#32
  let v56 : BitVec 32 := Scalar.muli v42 c8_i32_34
  let v57 : BitVec 32 := Scalar.addi c0_i32_35 v56
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_36 : BitVec 32 := 4#32
  let v58 : BitVec 32 := Scalar.muli v5 c4_i32_36
  let v59 : BitVec 32 := Scalar.addi v57 v58
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_37 : BitVec 32 := 1#32
  let v60 : BitVec 32 := Scalar.muli v8 c1_i32_37
  let v61 : BitVec 32 := Scalar.addi v59 v60
  v61.toNat
def k0_dev4 (d0 : Dev nD) : Nat :=
  let c0_i32_40 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_39 : BitVec 32 := 8#32
  let v62 : BitVec 32 := Scalar.muli v2 c8_i32_39
  let v63 : BitVec 32 := Scalar.addi c0_i32_40 v62
  let c1_i32_22 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v43 : BitVec 32 := Scalar.subi c1_i32_22 v5
  let c4_i32_41 : BitVec 32 := 4#32
  let v64 : BitVec 32 := Scalar.muli v43 c4_i32_41
  let v65 : BitVec 32 := Scalar.addi v63 v64
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_42 : BitVec 32 := 1#32
  let v66 : BitVec 32 := Scalar.muli v8 c1_i32_42
  let v67 : BitVec 32 := Scalar.addi v65 v66
  v67.toNat
def k0_off1 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_16 : BitVec 32 := 2#32
  let v32 : BitVec 32 := Scalar.muli v2 c2_i32_16
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v33 : BitVec 32 := Scalar.addi v32 v5
  let c4096_i32 : BitVec 32 := 4096#32
  let v40 : BitVec 32 := Scalar.muli v33 c4096_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1024_i32 : BitVec 32 := 1024#32
  let v68 : BitVec 32 := Scalar.muli v8 c1024_i32
  let v69 : BitVec 32 := Scalar.addi v40 v68
  let c0_i32_45 : BitVec 32 := 0#32
  ![v69.toNat, 0]
def k0_dev5 (d0 : Dev nD) : Nat :=
  let c0_i32_62 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_61 : BitVec 32 := 8#32
  let v89 : BitVec 32 := Scalar.muli v2 c8_i32_61
  let v90 : BitVec 32 := Scalar.addi c0_i32_62 v89
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_63 : BitVec 32 := 4#32
  let v91 : BitVec 32 := Scalar.muli v5 c4_i32_63
  let v92 : BitVec 32 := Scalar.addi v90 v91
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_64 : BitVec 32 := 1#32
  let v93 : BitVec 32 := Scalar.muli v19 c1_i32_64
  let v94 : BitVec 32 := Scalar.addi v92 v93
  v94.toNat
def k0_dev6 (d0 : Dev nD) : Nat :=
  let c0_i32_74 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_73 : BitVec 32 := 8#32
  let v102 : BitVec 32 := Scalar.muli v2 c8_i32_73
  let v103 : BitVec 32 := Scalar.addi c0_i32_74 v102
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_75 : BitVec 32 := 4#32
  let v104 : BitVec 32 := Scalar.muli v5 c4_i32_75
  let v105 : BitVec 32 := Scalar.addi v103 v104
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_76 : BitVec 32 := 1#32
  let v106 : BitVec 32 := Scalar.muli v19 c1_i32_76
  let v107 : BitVec 32 := Scalar.addi v105 v106
  v107.toNat
def k0_dev7 (d0 : Dev nD) : Nat :=
  let c0_i32_85 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_84 : BitVec 32 := 8#32
  let v115 : BitVec 32 := Scalar.muli v2 c8_i32_84
  let v116 : BitVec 32 := Scalar.addi c0_i32_85 v115
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_86 : BitVec 32 := 4#32
  let v117 : BitVec 32 := Scalar.muli v5 c4_i32_86
  let v118 : BitVec 32 := Scalar.addi v116 v117
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_87 : BitVec 32 := 1#32
  let v119 : BitVec 32 := Scalar.muli v19 c1_i32_87
  let v120 : BitVec 32 := Scalar.addi v118 v119
  v120.toNat
def k0_dev8 (d0 : Dev nD) : Nat :=
  let c0_i32_95 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_94 : BitVec 32 := 8#32
  let v128 : BitVec 32 := Scalar.muli v2 c8_i32_94
  let v129 : BitVec 32 := Scalar.addi c0_i32_95 v128
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_96 : BitVec 32 := 4#32
  let v130 : BitVec 32 := Scalar.muli v5 c4_i32_96
  let v131 : BitVec 32 := Scalar.addi v129 v130
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_97 : BitVec 32 := 1#32
  let v132 : BitVec 32 := Scalar.muli v19 c1_i32_97
  let v133 : BitVec 32 := Scalar.addi v131 v132
  v133.toNat
def k0_off2 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_16 : BitVec 32 := 2#32
  let v32 : BitVec 32 := Scalar.muli v2 c2_i32_16
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v33 : BitVec 32 := Scalar.addi v32 v5
  let c4096_i32 : BitVec 32 := 4096#32
  let v40 : BitVec 32 := Scalar.muli v33 c4096_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_101 : BitVec 32 := 1#32
  let v141 : BitVec 32 := Scalar.subi v8 c1_i32_101
  let c4_i32_102 : BitVec 32 := 4#32
  let c0_i32_103 : BitVec 32 := 0#32
  let v142 : BitVec 1 := Scalar.cmpi .eq c4_i32_102 c0_i32_103
  let c1_i32_104 : BitVec 32 := 1#32
  let v143 : BitVec 32 := Scalar.select v142 c1_i32_104 c4_i32_102
  let v144 : BitVec 32 := Scalar.remsi v141 v143
  let c0_i32_106 : BitVec 32 := 0#32
  let v146 : BitVec 1 := Scalar.cmpi .slt v144 c0_i32_106
  let c0_i32_107 : BitVec 32 := 0#32
  let v147 : BitVec 1 := Scalar.cmpi .slt v143 c0_i32_107
  let v148 : BitVec 1 := Scalar.xori v146 v147
  let c0_i32_105 : BitVec 32 := 0#32
  let v145 : BitVec 1 := Scalar.cmpi .ne v144 c0_i32_105
  let v149 : BitVec 1 := Scalar.andi v148 v145
  let v150 : BitVec 32 := Scalar.addi v144 v143
  let v151 : BitVec 32 := Scalar.select v149 v150 v144
  let c1024_i32_108 : BitVec 32 := 1024#32
  let v152 : BitVec 32 := Scalar.muli v151 c1024_i32_108
  let v153 : BitVec 32 := Scalar.addi v40 v152
  let c0_i32_110 : BitVec 32 := 0#32
  ![v153.toNat, 0]
def k0_dev9 (d0 : Dev nD) : Nat :=
  let c0_i32_146 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_145 : BitVec 32 := 8#32
  let v183 : BitVec 32 := Scalar.muli v2 c8_i32_145
  let v184 : BitVec 32 := Scalar.addi c0_i32_146 v183
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_147 : BitVec 32 := 4#32
  let v185 : BitVec 32 := Scalar.muli v5 c4_i32_147
  let v186 : BitVec 32 := Scalar.addi v184 v185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_148 : BitVec 32 := 1#32
  let v187 : BitVec 32 := Scalar.muli v19 c1_i32_148
  let v188 : BitVec 32 := Scalar.addi v186 v187
  v188.toNat
def k0_dev10 (d0 : Dev nD) : Nat :=
  let c0_i32_184 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_183 : BitVec 32 := 8#32
  let v219 : BitVec 32 := Scalar.muli v2 c8_i32_183
  let v220 : BitVec 32 := Scalar.addi c0_i32_184 v219
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_185 : BitVec 32 := 4#32
  let v221 : BitVec 32 := Scalar.muli v5 c4_i32_185
  let v222 : BitVec 32 := Scalar.addi v220 v221
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_186 : BitVec 32 := 1#32
  let v223 : BitVec 32 := Scalar.muli v19 c1_i32_186
  let v224 : BitVec 32 := Scalar.addi v222 v223
  v224.toNat
def k0_dev11 (d0 : Dev nD) : Nat :=
  let c0_i32_222 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_221 : BitVec 32 := 8#32
  let v255 : BitVec 32 := Scalar.muli v2 c8_i32_221
  let v256 : BitVec 32 := Scalar.addi c0_i32_222 v255
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_223 : BitVec 32 := 4#32
  let v257 : BitVec 32 := Scalar.muli v5 c4_i32_223
  let v258 : BitVec 32 := Scalar.addi v256 v257
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_224 : BitVec 32 := 1#32
  let v259 : BitVec 32 := Scalar.muli v19 c1_i32_224
  let v260 : BitVec 32 := Scalar.addi v258 v259
  v260.toNat
def k0_dev12 (d0 : Dev nD) : Nat :=
  let c0_i32_260 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_259 : BitVec 32 := 8#32
  let v291 : BitVec 32 := Scalar.muli v2 c8_i32_259
  let v292 : BitVec 32 := Scalar.addi c0_i32_260 v291
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_261 : BitVec 32 := 4#32
  let v293 : BitVec 32 := Scalar.muli v5 c4_i32_261
  let v294 : BitVec 32 := Scalar.addi v292 v293
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_262 : BitVec 32 := 1#32
  let v295 : BitVec 32 := Scalar.muli v19 c1_i32_262
  let v296 : BitVec 32 := Scalar.addi v294 v295
  v296.toNat
def k0_off3 (d0 : Dev nD) (c0_i32_267 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_16 : BitVec 32 := 2#32
  let v32 : BitVec 32 := Scalar.muli v2 c2_i32_16
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v33 : BitVec 32 := Scalar.addi v32 v5
  let c4096_i32 : BitVec 32 := 4096#32
  let v40 : BitVec 32 := Scalar.muli v33 c4096_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v304 : BitVec 32 := Scalar.subi v8 c0_i32_267
  let c2_i32_268 : BitVec 32 := 2#32
  let v305 : BitVec 32 := Scalar.subi v304 c2_i32_268
  let c4_i32_269 : BitVec 32 := 4#32
  let c0_i32_270 : BitVec 32 := 0#32
  let v306 : BitVec 1 := Scalar.cmpi .eq c4_i32_269 c0_i32_270
  let c1_i32_271 : BitVec 32 := 1#32
  let v307 : BitVec 32 := Scalar.select v306 c1_i32_271 c4_i32_269
  let v308 : BitVec 32 := Scalar.remsi v305 v307
  let c0_i32_273 : BitVec 32 := 0#32
  let v310 : BitVec 1 := Scalar.cmpi .slt v308 c0_i32_273
  let c0_i32_274 : BitVec 32 := 0#32
  let v311 : BitVec 1 := Scalar.cmpi .slt v307 c0_i32_274
  let v312 : BitVec 1 := Scalar.xori v310 v311
  let c0_i32_272 : BitVec 32 := 0#32
  let v309 : BitVec 1 := Scalar.cmpi .ne v308 c0_i32_272
  let v313 : BitVec 1 := Scalar.andi v312 v309
  let v314 : BitVec 32 := Scalar.addi v308 v307
  let v315 : BitVec 32 := Scalar.select v313 v314 v308
  let c1024_i32_275 : BitVec 32 := 1024#32
  let v316 : BitVec 32 := Scalar.muli v315 c1024_i32_275
  let v317 : BitVec 32 := Scalar.addi v40 v316
  let c0_i32_277 : BitVec 32 := 0#32
  ![v317.toNat, 0]
def k0_dev13 (d0 : Dev nD) : Nat :=
  let c0_i32_314 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_313 : BitVec 32 := 8#32
  let v347 : BitVec 32 := Scalar.muli v2 c8_i32_313
  let v348 : BitVec 32 := Scalar.addi c0_i32_314 v347
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_315 : BitVec 32 := 4#32
  let v349 : BitVec 32 := Scalar.muli v5 c4_i32_315
  let v350 : BitVec 32 := Scalar.addi v348 v349
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_316 : BitVec 32 := 1#32
  let v351 : BitVec 32 := Scalar.muli v19 c1_i32_316
  let v352 : BitVec 32 := Scalar.addi v350 v351
  v352.toNat
def k0_dev14 (d0 : Dev nD) : Nat :=
  let c0_i32_354 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_353 : BitVec 32 := 8#32
  let v383 : BitVec 32 := Scalar.muli v2 c8_i32_353
  let v384 : BitVec 32 := Scalar.addi c0_i32_354 v383
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_355 : BitVec 32 := 4#32
  let v385 : BitVec 32 := Scalar.muli v5 c4_i32_355
  let v386 : BitVec 32 := Scalar.addi v384 v385
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_356 : BitVec 32 := 1#32
  let v387 : BitVec 32 := Scalar.muli v19 c1_i32_356
  let v388 : BitVec 32 := Scalar.addi v386 v387
  v388.toNat
def k0_dev15 (d0 : Dev nD) : Nat :=
  let c0_i32_394 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_393 : BitVec 32 := 8#32
  let v419 : BitVec 32 := Scalar.muli v2 c8_i32_393
  let v420 : BitVec 32 := Scalar.addi c0_i32_394 v419
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_395 : BitVec 32 := 4#32
  let v421 : BitVec 32 := Scalar.muli v5 c4_i32_395
  let v422 : BitVec 32 := Scalar.addi v420 v421
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_396 : BitVec 32 := 1#32
  let v423 : BitVec 32 := Scalar.muli v19 c1_i32_396
  let v424 : BitVec 32 := Scalar.addi v422 v423
  v424.toNat
def k0_dev16 (d0 : Dev nD) : Nat :=
  let c0_i32_434 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_433 : BitVec 32 := 8#32
  let v455 : BitVec 32 := Scalar.muli v2 c8_i32_433
  let v456 : BitVec 32 := Scalar.addi c0_i32_434 v455
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_435 : BitVec 32 := 4#32
  let v457 : BitVec 32 := Scalar.muli v5 c4_i32_435
  let v458 : BitVec 32 := Scalar.addi v456 v457
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_436 : BitVec 32 := 1#32
  let v459 : BitVec 32 := Scalar.muli v19 c1_i32_436
  let v460 : BitVec 32 := Scalar.addi v458 v459
  v460.toNat
def k0_off4 (d0 : Dev nD) (c0_i32_513 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_16 : BitVec 32 := 2#32
  let v32 : BitVec 32 := Scalar.muli v2 c2_i32_16
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v33 : BitVec 32 := Scalar.addi v32 v5
  let c4096_i32 : BitVec 32 := 4096#32
  let v40 : BitVec 32 := Scalar.muli v33 c4096_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v76 : BitVec 32 := Scalar.addi v8 c1_i32_48
  let c4_i32_49 : BitVec 32 := 4#32
  let c0_i32_50 : BitVec 32 := 0#32
  let v77 : BitVec 1 := Scalar.cmpi .eq c4_i32_49 c0_i32_50
  let c1_i32_51 : BitVec 32 := 1#32
  let v78 : BitVec 32 := Scalar.select v77 c1_i32_51 c4_i32_49
  let v79 : BitVec 32 := Scalar.remsi v76 v78
  let c0_i32_53 : BitVec 32 := 0#32
  let v81 : BitVec 1 := Scalar.cmpi .slt v79 c0_i32_53
  let c0_i32_54 : BitVec 32 := 0#32
  let v82 : BitVec 1 := Scalar.cmpi .slt v78 c0_i32_54
  let v83 : BitVec 1 := Scalar.xori v81 v82
  let c0_i32_52 : BitVec 32 := 0#32
  let v80 : BitVec 1 := Scalar.cmpi .ne v79 c0_i32_52
  let v84 : BitVec 1 := Scalar.andi v83 v80
  let v85 : BitVec 32 := Scalar.addi v79 v78
  let v86 : BitVec 32 := Scalar.select v84 v85 v79
  let c1024_i32_512 : BitVec 32 := 1024#32
  let v534 : BitVec 32 := Scalar.muli v86 c1024_i32_512
  let v535 : BitVec 32 := Scalar.addi v40 v534
  let v536 : BitVec 32 := Scalar.addi v535 c0_i32_513
  let c0_i32_520 : BitVec 32 := 0#32
  ![v536.toNat, 0]
def k0_dev17 (d0 : Dev nD) : Nat :=
  let c0_i32_517 : BitVec 32 := 0#32
  let c1_i32_55 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v87 : BitVec 32 := Scalar.subi c1_i32_55 v2
  let c8_i32_516 : BitVec 32 := 8#32
  let v537 : BitVec 32 := Scalar.muli v87 c8_i32_516
  let v538 : BitVec 32 := Scalar.addi c0_i32_517 v537
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_518 : BitVec 32 := 4#32
  let v539 : BitVec 32 := Scalar.muli v5 c4_i32_518
  let v540 : BitVec 32 := Scalar.addi v538 v539
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_519 : BitVec 32 := 1#32
  let v541 : BitVec 32 := Scalar.muli v8 c1_i32_519
  let v542 : BitVec 32 := Scalar.addi v540 v541
  v542.toNat
def k0_dev18 (d0 : Dev nD) : Nat :=
  let c0_i32_528 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_527 : BitVec 32 := 8#32
  let v552 : BitVec 32 := Scalar.muli v2 c8_i32_527
  let v553 : BitVec 32 := Scalar.addi c0_i32_528 v552
  let c1_i32_56 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v88 : BitVec 32 := Scalar.subi c1_i32_56 v5
  let c4_i32_529 : BitVec 32 := 4#32
  let v554 : BitVec 32 := Scalar.muli v88 c4_i32_529
  let v555 : BitVec 32 := Scalar.addi v553 v554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_530 : BitVec 32 := 1#32
  let v556 : BitVec 32 := Scalar.muli v8 c1_i32_530
  let v557 : BitVec 32 := Scalar.addi v555 v556
  v557.toNat
def k0_dev19 (d0 : Dev nD) : Nat :=
  let c0_i32_539 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_538 : BitVec 32 := 8#32
  let v567 : BitVec 32 := Scalar.muli v2 c8_i32_538
  let v568 : BitVec 32 := Scalar.addi c0_i32_539 v567
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_540 : BitVec 32 := 4#32
  let v569 : BitVec 32 := Scalar.muli v5 c4_i32_540
  let v570 : BitVec 32 := Scalar.addi v568 v569
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_541 : BitVec 32 := 1#32
  let v571 : BitVec 32 := Scalar.muli v19 c1_i32_541
  let v572 : BitVec 32 := Scalar.addi v570 v571
  v572.toNat
def k0_dev20 (d0 : Dev nD) : Nat :=
  let c0_i32_608 : BitVec 32 := 0#32
  let c1_i32_55 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v87 : BitVec 32 := Scalar.subi c1_i32_55 v2
  let c8_i32_607 : BitVec 32 := 8#32
  let v628 : BitVec 32 := Scalar.muli v87 c8_i32_607
  let v629 : BitVec 32 := Scalar.addi c0_i32_608 v628
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_609 : BitVec 32 := 4#32
  let v630 : BitVec 32 := Scalar.muli v5 c4_i32_609
  let v631 : BitVec 32 := Scalar.addi v629 v630
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_610 : BitVec 32 := 1#32
  let v632 : BitVec 32 := Scalar.muli v8 c1_i32_610
  let v633 : BitVec 32 := Scalar.addi v631 v632
  v633.toNat
def k0_dev21 (d0 : Dev nD) : Nat :=
  let c0_i32_619 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_618 : BitVec 32 := 8#32
  let v643 : BitVec 32 := Scalar.muli v2 c8_i32_618
  let v644 : BitVec 32 := Scalar.addi c0_i32_619 v643
  let c1_i32_56 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v88 : BitVec 32 := Scalar.subi c1_i32_56 v5
  let c4_i32_620 : BitVec 32 := 4#32
  let v645 : BitVec 32 := Scalar.muli v88 c4_i32_620
  let v646 : BitVec 32 := Scalar.addi v644 v645
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_621 : BitVec 32 := 1#32
  let v647 : BitVec 32 := Scalar.muli v8 c1_i32_621
  let v648 : BitVec 32 := Scalar.addi v646 v647
  v648.toNat
def k0_dev22 (d0 : Dev nD) : Nat :=
  let c0_i32_630 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_629 : BitVec 32 := 8#32
  let v658 : BitVec 32 := Scalar.muli v2 c8_i32_629
  let v659 : BitVec 32 := Scalar.addi c0_i32_630 v658
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_631 : BitVec 32 := 4#32
  let v660 : BitVec 32 := Scalar.muli v5 c4_i32_631
  let v661 : BitVec 32 := Scalar.addi v659 v660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_632 : BitVec 32 := 1#32
  let v662 : BitVec 32 := Scalar.muli v19 c1_i32_632
  let v663 : BitVec 32 := Scalar.addi v661 v662
  v663.toNat
def k0_off5 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_16 : BitVec 32 := 2#32
  let v32 : BitVec 32 := Scalar.muli v2 c2_i32_16
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v33 : BitVec 32 := Scalar.addi v32 v5
  let c4096_i32 : BitVec 32 := 4096#32
  let v40 : BitVec 32 := Scalar.muli v33 c4096_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v76 : BitVec 32 := Scalar.addi v8 c1_i32_48
  let c4_i32_49 : BitVec 32 := 4#32
  let c0_i32_50 : BitVec 32 := 0#32
  let v77 : BitVec 1 := Scalar.cmpi .eq c4_i32_49 c0_i32_50
  let c1_i32_51 : BitVec 32 := 1#32
  let v78 : BitVec 32 := Scalar.select v77 c1_i32_51 c4_i32_49
  let v79 : BitVec 32 := Scalar.remsi v76 v78
  let c0_i32_53 : BitVec 32 := 0#32
  let v81 : BitVec 1 := Scalar.cmpi .slt v79 c0_i32_53
  let c0_i32_54 : BitVec 32 := 0#32
  let v82 : BitVec 1 := Scalar.cmpi .slt v78 c0_i32_54
  let v83 : BitVec 1 := Scalar.xori v81 v82
  let c0_i32_52 : BitVec 32 := 0#32
  let v80 : BitVec 1 := Scalar.cmpi .ne v79 c0_i32_52
  let v84 : BitVec 1 := Scalar.andi v83 v80
  let v85 : BitVec 32 := Scalar.addi v79 v78
  let v86 : BitVec 32 := Scalar.select v84 v85 v79
  let c1024_i32_636 : BitVec 32 := 1024#32
  let v670 : BitVec 32 := Scalar.muli v86 c1024_i32_636
  let v671 : BitVec 32 := Scalar.addi v40 v670
  let c0_i32_638 : BitVec 32 := 0#32
  ![v671.toNat, 0]
def k0_off6 (d0 : Dev nD) (c1_i32_642 : BitVec 32) (c0_i32_665 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_16 : BitVec 32 := 2#32
  let v32 : BitVec 32 := Scalar.muli v2 c2_i32_16
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v33 : BitVec 32 := Scalar.addi v32 v5
  let c4096_i32 : BitVec 32 := 4096#32
  let v40 : BitVec 32 := Scalar.muli v33 c4096_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_641 : BitVec 32 := 1#32
  let v678 : BitVec 32 := Scalar.addi v8 c1_i32_641
  let v679 : BitVec 32 := Scalar.subi v678 c1_i32_642
  let c4_i32_643 : BitVec 32 := 4#32
  let c0_i32_644 : BitVec 32 := 0#32
  let v680 : BitVec 1 := Scalar.cmpi .eq c4_i32_643 c0_i32_644
  let c1_i32_645 : BitVec 32 := 1#32
  let v681 : BitVec 32 := Scalar.select v680 c1_i32_645 c4_i32_643
  let v682 : BitVec 32 := Scalar.remsi v679 v681
  let c0_i32_647 : BitVec 32 := 0#32
  let v684 : BitVec 1 := Scalar.cmpi .slt v682 c0_i32_647
  let c0_i32_648 : BitVec 32 := 0#32
  let v685 : BitVec 1 := Scalar.cmpi .slt v681 c0_i32_648
  let v686 : BitVec 1 := Scalar.xori v684 v685
  let c0_i32_646 : BitVec 32 := 0#32
  let v683 : BitVec 1 := Scalar.cmpi .ne v682 c0_i32_646
  let v687 : BitVec 1 := Scalar.andi v686 v683
  let v688 : BitVec 32 := Scalar.addi v682 v681
  let v689 : BitVec 32 := Scalar.select v687 v688 v682
  let c1024_i32_649 : BitVec 32 := 1024#32
  let v690 : BitVec 32 := Scalar.muli v689 c1024_i32_649
  let v691 : BitVec 32 := Scalar.addi v40 v690
  let v706 : BitVec 32 := Scalar.addi v691 c0_i32_665
  let c0_i32_672 : BitVec 32 := 0#32
  ![v706.toNat, 0]
def k0_dev23 (d0 : Dev nD) : Nat :=
  let c0_i32_669 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_668 : BitVec 32 := 8#32
  let v707 : BitVec 32 := Scalar.muli v2 c8_i32_668
  let v708 : BitVec 32 := Scalar.addi c0_i32_669 v707
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_670 : BitVec 32 := 4#32
  let v709 : BitVec 32 := Scalar.muli v5 c4_i32_670
  let v710 : BitVec 32 := Scalar.addi v708 v709
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_671 : BitVec 32 := 1#32
  let v711 : BitVec 32 := Scalar.muli v19 c1_i32_671
  let v712 : BitVec 32 := Scalar.addi v710 v711
  v712.toNat
def k0_dev24 (d0 : Dev nD) : Nat :=
  let c0_i32_677 : BitVec 32 := 0#32
  let c1_i32_55 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v87 : BitVec 32 := Scalar.subi c1_i32_55 v2
  let c8_i32_676 : BitVec 32 := 8#32
  let v719 : BitVec 32 := Scalar.muli v87 c8_i32_676
  let v720 : BitVec 32 := Scalar.addi c0_i32_677 v719
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_678 : BitVec 32 := 4#32
  let v721 : BitVec 32 := Scalar.muli v5 c4_i32_678
  let v722 : BitVec 32 := Scalar.addi v720 v721
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_679 : BitVec 32 := 1#32
  let v723 : BitVec 32 := Scalar.muli v8 c1_i32_679
  let v724 : BitVec 32 := Scalar.addi v722 v723
  v724.toNat
def k0_dev25 (d0 : Dev nD) : Nat :=
  let c0_i32_685 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_684 : BitVec 32 := 8#32
  let v731 : BitVec 32 := Scalar.muli v2 c8_i32_684
  let v732 : BitVec 32 := Scalar.addi c0_i32_685 v731
  let c1_i32_56 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v88 : BitVec 32 := Scalar.subi c1_i32_56 v5
  let c4_i32_686 : BitVec 32 := 4#32
  let v733 : BitVec 32 := Scalar.muli v88 c4_i32_686
  let v734 : BitVec 32 := Scalar.addi v732 v733
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_687 : BitVec 32 := 1#32
  let v735 : BitVec 32 := Scalar.muli v8 c1_i32_687
  let v736 : BitVec 32 := Scalar.addi v734 v735
  v736.toNat
def k0_dev26 (d0 : Dev nD) : Nat :=
  let c0_i32_709 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_708 : BitVec 32 := 8#32
  let v758 : BitVec 32 := Scalar.muli v2 c8_i32_708
  let v759 : BitVec 32 := Scalar.addi c0_i32_709 v758
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_710 : BitVec 32 := 4#32
  let v760 : BitVec 32 := Scalar.muli v5 c4_i32_710
  let v761 : BitVec 32 := Scalar.addi v759 v760
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_711 : BitVec 32 := 1#32
  let v762 : BitVec 32 := Scalar.muli v19 c1_i32_711
  let v763 : BitVec 32 := Scalar.addi v761 v762
  v763.toNat
def k0_dev27 (d0 : Dev nD) : Nat :=
  let c0_i32_717 : BitVec 32 := 0#32
  let c1_i32_55 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v87 : BitVec 32 := Scalar.subi c1_i32_55 v2
  let c8_i32_716 : BitVec 32 := 8#32
  let v770 : BitVec 32 := Scalar.muli v87 c8_i32_716
  let v771 : BitVec 32 := Scalar.addi c0_i32_717 v770
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_718 : BitVec 32 := 4#32
  let v772 : BitVec 32 := Scalar.muli v5 c4_i32_718
  let v773 : BitVec 32 := Scalar.addi v771 v772
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_719 : BitVec 32 := 1#32
  let v774 : BitVec 32 := Scalar.muli v8 c1_i32_719
  let v775 : BitVec 32 := Scalar.addi v773 v774
  v775.toNat
def k0_dev28 (d0 : Dev nD) : Nat :=
  let c0_i32_725 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_724 : BitVec 32 := 8#32
  let v782 : BitVec 32 := Scalar.muli v2 c8_i32_724
  let v783 : BitVec 32 := Scalar.addi c0_i32_725 v782
  let c1_i32_56 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v88 : BitVec 32 := Scalar.subi c1_i32_56 v5
  let c4_i32_726 : BitVec 32 := 4#32
  let v784 : BitVec 32 := Scalar.muli v88 c4_i32_726
  let v785 : BitVec 32 := Scalar.addi v783 v784
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_727 : BitVec 32 := 1#32
  let v786 : BitVec 32 := Scalar.muli v8 c1_i32_727
  let v787 : BitVec 32 := Scalar.addi v785 v786
  v787.toNat
def k0_off7 (d0 : Dev nD) (c0_i32_731 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_19 : BitVec 32 := 2#32
  let v37 : BitVec 32 := Scalar.muli v2 c2_i32_19
  let c1_i32_20 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v38 : BitVec 32 := Scalar.subi c1_i32_20 v5
  let v39 : BitVec 32 := Scalar.addi v37 v38
  let c4096_i32_774 : BitVec 32 := 4096#32
  let v846 : BitVec 32 := Scalar.muli v39 c4096_i32_774
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_730 : BitVec 32 := 1#32
  let v794 : BitVec 32 := Scalar.addi v8 c1_i32_730
  let v795 : BitVec 32 := Scalar.subi v794 c0_i32_731
  let c4_i32_732 : BitVec 32 := 4#32
  let c0_i32_733 : BitVec 32 := 0#32
  let v796 : BitVec 1 := Scalar.cmpi .eq c4_i32_732 c0_i32_733
  let c1_i32_734 : BitVec 32 := 1#32
  let v797 : BitVec 32 := Scalar.select v796 c1_i32_734 c4_i32_732
  let v798 : BitVec 32 := Scalar.remsi v795 v797
  let c0_i32_736 : BitVec 32 := 0#32
  let v800 : BitVec 1 := Scalar.cmpi .slt v798 c0_i32_736
  let c0_i32_737 : BitVec 32 := 0#32
  let v801 : BitVec 1 := Scalar.cmpi .slt v797 c0_i32_737
  let v802 : BitVec 1 := Scalar.xori v800 v801
  let c0_i32_735 : BitVec 32 := 0#32
  let v799 : BitVec 1 := Scalar.cmpi .ne v798 c0_i32_735
  let v803 : BitVec 1 := Scalar.andi v802 v799
  let v804 : BitVec 32 := Scalar.addi v798 v797
  let v805 : BitVec 32 := Scalar.select v803 v804 v798
  let c1024_i32_775 : BitVec 32 := 1024#32
  let v847 : BitVec 32 := Scalar.muli v805 c1024_i32_775
  let v848 : BitVec 32 := Scalar.addi v846 v847
  let c0_i32_785 : BitVec 32 := 0#32
  ![v848.toNat, 0]
def k0_dev29 (d0 : Dev nD) : Nat :=
  let c0_i32_782 : BitVec 32 := 0#32
  let c1_i32_55 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v87 : BitVec 32 := Scalar.subi c1_i32_55 v2
  let c8_i32_781 : BitVec 32 := 8#32
  let v853 : BitVec 32 := Scalar.muli v87 c8_i32_781
  let v854 : BitVec 32 := Scalar.addi c0_i32_782 v853
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_783 : BitVec 32 := 4#32
  let v855 : BitVec 32 := Scalar.muli v5 c4_i32_783
  let v856 : BitVec 32 := Scalar.addi v854 v855
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_784 : BitVec 32 := 1#32
  let v857 : BitVec 32 := Scalar.muli v8 c1_i32_784
  let v858 : BitVec 32 := Scalar.addi v856 v857
  v858.toNat
def k0_off8 (d0 : Dev nD) (c0_i32_731 : BitVec 32) : Fin 2 → Nat :=
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v34 : BitVec 32 := Scalar.subi c1_i32_17 v2
  let c2_i32_18 : BitVec 32 := 2#32
  let v35 : BitVec 32 := Scalar.muli v34 c2_i32_18
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v36 : BitVec 32 := Scalar.addi v35 v5
  let c4096_i32_776 : BitVec 32 := 4096#32
  let v849 : BitVec 32 := Scalar.muli v36 c4096_i32_776
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_730 : BitVec 32 := 1#32
  let v794 : BitVec 32 := Scalar.addi v8 c1_i32_730
  let v795 : BitVec 32 := Scalar.subi v794 c0_i32_731
  let c4_i32_732 : BitVec 32 := 4#32
  let c0_i32_733 : BitVec 32 := 0#32
  let v796 : BitVec 1 := Scalar.cmpi .eq c4_i32_732 c0_i32_733
  let c1_i32_734 : BitVec 32 := 1#32
  let v797 : BitVec 32 := Scalar.select v796 c1_i32_734 c4_i32_732
  let v798 : BitVec 32 := Scalar.remsi v795 v797
  let c0_i32_736 : BitVec 32 := 0#32
  let v800 : BitVec 1 := Scalar.cmpi .slt v798 c0_i32_736
  let c0_i32_737 : BitVec 32 := 0#32
  let v801 : BitVec 1 := Scalar.cmpi .slt v797 c0_i32_737
  let v802 : BitVec 1 := Scalar.xori v800 v801
  let c0_i32_735 : BitVec 32 := 0#32
  let v799 : BitVec 1 := Scalar.cmpi .ne v798 c0_i32_735
  let v803 : BitVec 1 := Scalar.andi v802 v799
  let v804 : BitVec 32 := Scalar.addi v798 v797
  let v805 : BitVec 32 := Scalar.select v803 v804 v798
  let c1024_i32_777 : BitVec 32 := 1024#32
  let v850 : BitVec 32 := Scalar.muli v805 c1024_i32_777
  let v851 : BitVec 32 := Scalar.addi v849 v850
  let c512_i32_778 : BitVec 32 := 512#32
  let v852 : BitVec 32 := Scalar.addi v851 c512_i32_778
  let c0_i32_793 : BitVec 32 := 0#32
  ![v852.toNat, 0]
def k0_dev30 (d0 : Dev nD) : Nat :=
  let c0_i32_790 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_789 : BitVec 32 := 8#32
  let v865 : BitVec 32 := Scalar.muli v2 c8_i32_789
  let v866 : BitVec 32 := Scalar.addi c0_i32_790 v865
  let c1_i32_56 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v88 : BitVec 32 := Scalar.subi c1_i32_56 v5
  let c4_i32_791 : BitVec 32 := 4#32
  let v867 : BitVec 32 := Scalar.muli v88 c4_i32_791
  let v868 : BitVec 32 := Scalar.addi v866 v867
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_792 : BitVec 32 := 1#32
  let v869 : BitVec 32 := Scalar.muli v8 c1_i32_792
  let v870 : BitVec 32 := Scalar.addi v868 v869
  v870.toNat
def k0_dev31 (d0 : Dev nD) : Nat :=
  let c0_i32_821 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_820 : BitVec 32 := 8#32
  let v906 : BitVec 32 := Scalar.muli v2 c8_i32_820
  let v907 : BitVec 32 := Scalar.addi c0_i32_821 v906
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_822 : BitVec 32 := 4#32
  let v908 : BitVec 32 := Scalar.muli v5 c4_i32_822
  let v909 : BitVec 32 := Scalar.addi v907 v908
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_823 : BitVec 32 := 1#32
  let v910 : BitVec 32 := Scalar.muli v19 c1_i32_823
  let v911 : BitVec 32 := Scalar.addi v909 v910
  v911.toNat
def k0_dev32 (d0 : Dev nD) : Nat :=
  let c0_i32_829 : BitVec 32 := 0#32
  let c1_i32_55 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v87 : BitVec 32 := Scalar.subi c1_i32_55 v2
  let c8_i32_828 : BitVec 32 := 8#32
  let v918 : BitVec 32 := Scalar.muli v87 c8_i32_828
  let v919 : BitVec 32 := Scalar.addi c0_i32_829 v918
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_830 : BitVec 32 := 4#32
  let v920 : BitVec 32 := Scalar.muli v5 c4_i32_830
  let v921 : BitVec 32 := Scalar.addi v919 v920
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_831 : BitVec 32 := 1#32
  let v922 : BitVec 32 := Scalar.muli v8 c1_i32_831
  let v923 : BitVec 32 := Scalar.addi v921 v922
  v923.toNat
def k0_dev33 (d0 : Dev nD) : Nat :=
  let c0_i32_837 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_836 : BitVec 32 := 8#32
  let v930 : BitVec 32 := Scalar.muli v2 c8_i32_836
  let v931 : BitVec 32 := Scalar.addi c0_i32_837 v930
  let c1_i32_56 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v88 : BitVec 32 := Scalar.subi c1_i32_56 v5
  let c4_i32_838 : BitVec 32 := 4#32
  let v932 : BitVec 32 := Scalar.muli v88 c4_i32_838
  let v933 : BitVec 32 := Scalar.addi v931 v932
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_839 : BitVec 32 := 1#32
  let v934 : BitVec 32 := Scalar.muli v8 c1_i32_839
  let v935 : BitVec 32 := Scalar.addi v933 v934
  v935.toNat
def k0_dev34 (d0 : Dev nD) : Nat :=
  let c0_i32_859 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_858 : BitVec 32 := 8#32
  let v957 : BitVec 32 := Scalar.muli v2 c8_i32_858
  let v958 : BitVec 32 := Scalar.addi c0_i32_859 v957
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_860 : BitVec 32 := 4#32
  let v959 : BitVec 32 := Scalar.muli v5 c4_i32_860
  let v960 : BitVec 32 := Scalar.addi v958 v959
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_861 : BitVec 32 := 1#32
  let v961 : BitVec 32 := Scalar.muli v19 c1_i32_861
  let v962 : BitVec 32 := Scalar.addi v960 v961
  v962.toNat
def k0_dev35 (d0 : Dev nD) : Nat :=
  let c0_i32_867 : BitVec 32 := 0#32
  let c1_i32_55 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v87 : BitVec 32 := Scalar.subi c1_i32_55 v2
  let c8_i32_866 : BitVec 32 := 8#32
  let v969 : BitVec 32 := Scalar.muli v87 c8_i32_866
  let v970 : BitVec 32 := Scalar.addi c0_i32_867 v969
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_868 : BitVec 32 := 4#32
  let v971 : BitVec 32 := Scalar.muli v5 c4_i32_868
  let v972 : BitVec 32 := Scalar.addi v970 v971
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_869 : BitVec 32 := 1#32
  let v973 : BitVec 32 := Scalar.muli v8 c1_i32_869
  let v974 : BitVec 32 := Scalar.addi v972 v973
  v974.toNat
def k0_dev36 (d0 : Dev nD) : Nat :=
  let c0_i32_875 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_874 : BitVec 32 := 8#32
  let v981 : BitVec 32 := Scalar.muli v2 c8_i32_874
  let v982 : BitVec 32 := Scalar.addi c0_i32_875 v981
  let c1_i32_56 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v88 : BitVec 32 := Scalar.subi c1_i32_56 v5
  let c4_i32_876 : BitVec 32 := 4#32
  let v983 : BitVec 32 := Scalar.muli v88 c4_i32_876
  let v984 : BitVec 32 := Scalar.addi v982 v983
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_877 : BitVec 32 := 1#32
  let v985 : BitVec 32 := Scalar.muli v8 c1_i32_877
  let v986 : BitVec 32 := Scalar.addi v984 v985
  v986.toNat
def k0_dev37 (d0 : Dev nD) : Nat :=
  let c0_i32_928 : BitVec 32 := 0#32
  let c1_i32_55 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v87 : BitVec 32 := Scalar.subi c1_i32_55 v2
  let c8_i32_927 : BitVec 32 := 8#32
  let v1052 : BitVec 32 := Scalar.muli v87 c8_i32_927
  let v1053 : BitVec 32 := Scalar.addi c0_i32_928 v1052
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_929 : BitVec 32 := 4#32
  let v1054 : BitVec 32 := Scalar.muli v5 c4_i32_929
  let v1055 : BitVec 32 := Scalar.addi v1053 v1054
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_930 : BitVec 32 := 1#32
  let v1056 : BitVec 32 := Scalar.muli v8 c1_i32_930
  let v1057 : BitVec 32 := Scalar.addi v1055 v1056
  v1057.toNat
def k0_dev38 (d0 : Dev nD) : Nat :=
  let c0_i32_936 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_935 : BitVec 32 := 8#32
  let v1064 : BitVec 32 := Scalar.muli v2 c8_i32_935
  let v1065 : BitVec 32 := Scalar.addi c0_i32_936 v1064
  let c1_i32_56 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v88 : BitVec 32 := Scalar.subi c1_i32_56 v5
  let c4_i32_937 : BitVec 32 := 4#32
  let v1066 : BitVec 32 := Scalar.muli v88 c4_i32_937
  let v1067 : BitVec 32 := Scalar.addi v1065 v1066
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_938 : BitVec 32 := 1#32
  let v1068 : BitVec 32 := Scalar.muli v8 c1_i32_938
  let v1069 : BitVec 32 := Scalar.addi v1067 v1068
  v1069.toNat
def k0_dev39 (d0 : Dev nD) : Nat :=
  let c0_i32_966 : BitVec 32 := 0#32
  let c1_i32_55 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v87 : BitVec 32 := Scalar.subi c1_i32_55 v2
  let c8_i32_965 : BitVec 32 := 8#32
  let v1105 : BitVec 32 := Scalar.muli v87 c8_i32_965
  let v1106 : BitVec 32 := Scalar.addi c0_i32_966 v1105
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_967 : BitVec 32 := 4#32
  let v1107 : BitVec 32 := Scalar.muli v5 c4_i32_967
  let v1108 : BitVec 32 := Scalar.addi v1106 v1107
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_968 : BitVec 32 := 1#32
  let v1109 : BitVec 32 := Scalar.muli v8 c1_i32_968
  let v1110 : BitVec 32 := Scalar.addi v1108 v1109
  v1110.toNat
def k0_dev40 (d0 : Dev nD) : Nat :=
  let c0_i32_973 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_972 : BitVec 32 := 8#32
  let v1117 : BitVec 32 := Scalar.muli v2 c8_i32_972
  let v1118 : BitVec 32 := Scalar.addi c0_i32_973 v1117
  let c1_i32_56 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v88 : BitVec 32 := Scalar.subi c1_i32_56 v5
  let c4_i32_974 : BitVec 32 := 4#32
  let v1119 : BitVec 32 := Scalar.muli v88 c4_i32_974
  let v1120 : BitVec 32 := Scalar.addi v1118 v1119
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_975 : BitVec 32 := 1#32
  let v1121 : BitVec 32 := Scalar.muli v8 c1_i32_975
  let v1122 : BitVec 32 := Scalar.addi v1120 v1121
  v1122.toNat
def k0_dev41 (d0 : Dev nD) : Nat :=
  let c0_i32_994 : BitVec 32 := 0#32
  let c1_i32_55 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v87 : BitVec 32 := Scalar.subi c1_i32_55 v2
  let c8_i32_993 : BitVec 32 := 8#32
  let v1144 : BitVec 32 := Scalar.muli v87 c8_i32_993
  let v1145 : BitVec 32 := Scalar.addi c0_i32_994 v1144
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_995 : BitVec 32 := 4#32
  let v1146 : BitVec 32 := Scalar.muli v5 c4_i32_995
  let v1147 : BitVec 32 := Scalar.addi v1145 v1146
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_996 : BitVec 32 := 1#32
  let v1148 : BitVec 32 := Scalar.muli v8 c1_i32_996
  let v1149 : BitVec 32 := Scalar.addi v1147 v1148
  v1149.toNat
def k0_dev42 (d0 : Dev nD) : Nat :=
  let c0_i32_1001 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1000 : BitVec 32 := 8#32
  let v1156 : BitVec 32 := Scalar.muli v2 c8_i32_1000
  let v1157 : BitVec 32 := Scalar.addi c0_i32_1001 v1156
  let c1_i32_56 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v88 : BitVec 32 := Scalar.subi c1_i32_56 v5
  let c4_i32_1002 : BitVec 32 := 4#32
  let v1158 : BitVec 32 := Scalar.muli v88 c4_i32_1002
  let v1159 : BitVec 32 := Scalar.addi v1157 v1158
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1003 : BitVec 32 := 1#32
  let v1160 : BitVec 32 := Scalar.muli v8 c1_i32_1003
  let v1161 : BitVec 32 := Scalar.addi v1159 v1160
  v1161.toNat
def k0_dev43 (d0 : Dev nD) : Nat :=
  let c0_i32_1054 : BitVec 32 := 0#32
  let c1_i32_55 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v87 : BitVec 32 := Scalar.subi c1_i32_55 v2
  let c8_i32_1053 : BitVec 32 := 8#32
  let v1227 : BitVec 32 := Scalar.muli v87 c8_i32_1053
  let v1228 : BitVec 32 := Scalar.addi c0_i32_1054 v1227
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1055 : BitVec 32 := 4#32
  let v1229 : BitVec 32 := Scalar.muli v5 c4_i32_1055
  let v1230 : BitVec 32 := Scalar.addi v1228 v1229
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1056 : BitVec 32 := 1#32
  let v1231 : BitVec 32 := Scalar.muli v8 c1_i32_1056
  let v1232 : BitVec 32 := Scalar.addi v1230 v1231
  v1232.toNat
def k0_dev44 (d0 : Dev nD) : Nat :=
  let c0_i32_1062 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1061 : BitVec 32 := 8#32
  let v1239 : BitVec 32 := Scalar.muli v2 c8_i32_1061
  let v1240 : BitVec 32 := Scalar.addi c0_i32_1062 v1239
  let c1_i32_56 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v88 : BitVec 32 := Scalar.subi c1_i32_56 v5
  let c4_i32_1063 : BitVec 32 := 4#32
  let v1241 : BitVec 32 := Scalar.muli v88 c4_i32_1063
  let v1242 : BitVec 32 := Scalar.addi v1240 v1241
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1064 : BitVec 32 := 1#32
  let v1243 : BitVec 32 := Scalar.muli v8 c1_i32_1064
  let v1244 : BitVec 32 := Scalar.addi v1242 v1243
  v1244.toNat
def k0_dev45 (d0 : Dev nD) : Nat :=
  let c0_i32_1115 : BitVec 32 := 0#32
  let c1_i32_55 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v87 : BitVec 32 := Scalar.subi c1_i32_55 v2
  let c8_i32_1114 : BitVec 32 := 8#32
  let v1310 : BitVec 32 := Scalar.muli v87 c8_i32_1114
  let v1311 : BitVec 32 := Scalar.addi c0_i32_1115 v1310
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1116 : BitVec 32 := 4#32
  let v1312 : BitVec 32 := Scalar.muli v5 c4_i32_1116
  let v1313 : BitVec 32 := Scalar.addi v1311 v1312
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1117 : BitVec 32 := 1#32
  let v1314 : BitVec 32 := Scalar.muli v8 c1_i32_1117
  let v1315 : BitVec 32 := Scalar.addi v1313 v1314
  v1315.toNat
def k0_dev46 (d0 : Dev nD) : Nat :=
  let c0_i32_1123 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1122 : BitVec 32 := 8#32
  let v1322 : BitVec 32 := Scalar.muli v2 c8_i32_1122
  let v1323 : BitVec 32 := Scalar.addi c0_i32_1123 v1322
  let c1_i32_56 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v88 : BitVec 32 := Scalar.subi c1_i32_56 v5
  let c4_i32_1124 : BitVec 32 := 4#32
  let v1324 : BitVec 32 := Scalar.muli v88 c4_i32_1124
  let v1325 : BitVec 32 := Scalar.addi v1323 v1324
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1125 : BitVec 32 := 1#32
  let v1326 : BitVec 32 := Scalar.muli v8 c1_i32_1125
  let v1327 : BitVec 32 := Scalar.addi v1325 v1326
  v1327.toNat
-- ==== ReferenceIdeal.lean ====
abbrev S65536x1024 : Shape := ⟨2, ![65536, 1024]⟩
abbrev S4x16384x1024 : Shape := ⟨3, ![4, 16384, 1024]⟩
abbrev S_ : Shape := ⟨0, ![]⟩
abbrev S16384x1024 : Shape := ⟨2, ![16384, 1024]⟩

abbrev nBuf : Space → Nat
  | .hbm => 4
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S4x16384x1024, .f32⟩
  | .hbm, ⟨2, _⟩ => ⟨S_, .f32⟩
  | .hbm, ⟨3, _⟩ => ⟨S16384x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Proto.lean ====
/-
The transfers of the all-reduce kernel, who sends which to whom, which semaphores and which block of the result each
one names, and the order in which every device sends and waits. Nothing here mentions the logic: these are tables,
and facts about them that are decided.

Device `c` of the mesh 2 × 2 × 4 sits at `x = c / 8`, `y = c / 4 % 2`, `z = c % 4`; its QUARTER is `c / 4`. The result
has 16384 rows: four quarters of 4096 rows, each of four chunks of 1024, each of two halves of 512. A half is the
block a transfer into the result carries, and is numbered `8 * quarter + 2 * chunk + half`.
-/
module

public import proofs.«01_k».proof.Proof.Gen.KernelIdeal

@[expose] public section

/-! # The exchange as a schedule: the neighbours, the transfers, the blocks that they carry, and the order of sends and waits. -/

set_option synthInstance.maxHeartbeats 400000
set_option synthInstance.maxSize 1000

namespace Cert.KernelIdeal.AllReduce

open Cert.KernelIdeal Cert.KernelIdeal.Gen
open Idealize.ShloMosaic Idealize.ShloMosaic.TcCoe

/-! ## Neighbours -/

set_option backward.proofsInPublic true in
/-- The next device along `z`, cyclically. -/
def zr (c : Dev nD) : Dev nD := ⟨4 * (c.val / 4) + (c.val % 4 + 1) % 4, by have h : c.val < 16 := c.isLt; show _ < 16; omega⟩
set_option backward.proofsInPublic true in
/-- The previous device along `z`, cyclically. -/
def zl (c : Dev nD) : Dev nD := ⟨4 * (c.val / 4) + (c.val % 4 + 3) % 4, by have h : c.val < 16 := c.isLt; show _ < 16; omega⟩
set_option backward.proofsInPublic true in
/-- The other device along `x`. -/
def xp (c : Dev nD) : Dev nD := ⟨(c.val + 8) % 16, Nat.mod_lt _ (by decide)⟩
set_option backward.proofsInPublic true in
/-- The other device along `y`. -/
def yp (c : Dev nD) : Dev nD := ⟨8 * (c.val / 8) + (c.val + 4) % 8, by have h : c.val < 16 := c.isLt; show _ < 16; omega⟩

/-- The device before the next one along `z` is the device itself. -/
theorem zl_zr (c : Dev nD) : zl (zr c) = c := by revert c; decide
/-- The device after the one before is the device itself. -/
theorem zr_zl (c : Dev nD) : zr (zl c) = c := by revert c; decide
/-- The neighbour's neighbour along `x` is the device itself. -/
theorem xp_xp (c : Dev nD) : xp (xp c) = c := by revert c; decide
/-- The neighbour's neighbour along `y` is the device itself. -/
theorem yp_yp (c : Dev nD) : yp (yp c) = c := by revert c; decide

/-! ## Transfers -/

/-- The 42 transfers a device sends (and, from its neighbours, receives): `z h s`, sub-block `s` of the partial sum in
    hop `h` of the reduction along `z`; `ag r i`, half `i` of the chunk passed on along `z` in round `r`; `xy r i l`,
    that half sent along `x` (`l = 0`) or `y` (`l = 1`); `p2 j l`, the half relayed on, along `x` or `y`, so that it
    reaches the device that is neither neighbour. -/
inductive Tr
  | z (h : Fin 3) (s : Fin 4)
  | ag (r : Fin 3) (i : Fin 2)
  | xy (r : Fin 4) (i l : Fin 2)
  | p2 (j : Fin 4) (l : Fin 2)
  deriving DecidableEq

/-- The transfers in the order every device sends them. -/
def order : List Tr :=
  [.z 0 0, .z 0 1, .z 0 2, .z 0 3, .z 1 0, .z 1 1, .z 1 2, .z 1 3, .z 2 0, .z 2 1, .z 2 2, .z 2 3,
    .xy 0 0 0, .xy 0 0 1, .ag 0 0, .xy 0 1 0, .xy 0 1 1, .ag 0 1,
    .ag 1 0, .xy 1 0 0, .xy 1 0 1, .ag 1 1, .xy 1 1 0, .xy 1 1 1, .p2 0 0, .p2 0 1,
    .ag 2 0, .xy 2 0 0, .xy 2 0 1, .ag 2 1, .xy 2 1 0, .xy 2 1 1, .p2 1 0, .p2 1 1,
    .xy 3 0 0, .xy 3 0 1, .xy 3 1 0, .xy 3 1 1, .p2 2 0, .p2 2 1, .p2 3 0, .p2 3 1]

/-- Every transfer is in the sending order. -/
theorem mem_order (t : Tr) : t ∈ order := by
  cases t with
  | z h s => revert h s; decide
  | ag r i => revert r i; decide
  | xy r i l => revert r i l; decide
  | p2 j l => revert j l; decide

/-- No transfer is twice in the sending order. -/
theorem nodup_order : order.Nodup := by decide +kernel

instance : Fintype Tr := ⟨⟨order, nodup_order⟩, mem_order⟩

/-- A transfer's place in the sending order. -/
def Tr.pos (t : Tr) : ℕ := order.idxOf t

/-- The number of the DMA semaphore a transfer credits at its sender. -/
def Tr.sNum : Tr → ℕ
  | .z h s => 4 * h.val + s.val
  | .ag r i => 24 + 2 * r.val + i.val
  | .xy r i l => 36 + 4 * r.val + 2 * i.val + l.val
  | .p2 j l => 68 + 2 * j.val + l.val

/-- The number of the DMA semaphore a transfer credits at its receiver. -/
def Tr.rNum : Tr → ℕ
  | .z h s => 12 + 4 * h.val + s.val
  | .ag r i => 30 + 2 * r.val + i.val
  | .xy r i l => 52 + 4 * r.val + 2 * i.val + l.val
  | .p2 j l => 76 + 2 * j.val + l.val

/-- The number of a sender's semaphore is within the kernel's 86. -/
theorem Tr.sNum_lt (t : Tr) : t.sNum < 86 := by cases t <;> simp only [Tr.sNum] <;> omega
/-- The number of a receiver's semaphore is within the kernel's 86. -/
theorem Tr.rNum_lt (t : Tr) : t.rNum < 86 := by cases t <;> simp only [Tr.rNum] <;> omega

/-- Which neighbour a transfer goes to. -/
def Tr.dir : Tr → Fin 3
  | .z _ _ => 0
  | .ag _ _ => 0
  | .xy _ _ l => if l = 0 then 1 else 2
  | .p2 _ l => if l = 0 then 1 else 2

/-- The neighbour in a direction. -/
def nb (d : Fin 3) (c : Dev nD) : Dev nD := if d = 0 then zr c else if d = 1 then xp c else yp c
/-- The neighbour whose neighbour in that direction is `c`. -/
def nbInv (d : Fin 3) (c : Dev nD) : Dev nD := if d = 0 then zl c else if d = 1 then xp c else yp c

/-- The device transfer `t` of device `c` goes to. -/
def Tr.peer (t : Tr) (c : Dev nD) : Dev nD := nb t.dir c
/-- The device whose transfer `t` comes to device `c`. -/
def Tr.from (t : Tr) (c : Dev nD) : Dev nD := nbInv t.dir c

/-- Going against a direction and then along it leads back. -/
theorem nb_nbInv (d : Fin 3) (c : Dev nD) : nb d (nbInv d c) = c := by revert d c; decide
/-- Going along a direction and then against it leads back. -/
theorem nbInv_nb (d : Fin 3) (c : Dev nD) : nbInv d (nb d c) = c := by revert d c; decide
/-- The device that sends `t` to `c` sends it to `c`. -/
theorem Tr.peer_from (t : Tr) (c : Dev nD) : t.peer (t.from c) = c := nb_nbInv _ _
/-- The receiver of `c`'s transfer `t` has it from `c`. -/
theorem Tr.from_peer (t : Tr) (c : Dev nD) : t.from (t.peer c) = c := nbInv_nb _ _

/-! ## Blocks of the result -/

/-- Half `i` of chunk `k` of quarter `q`. -/
def blk (q k i : ℕ) : Fin 32 := Fin.ofNat 32 (8 * q + 2 * (k % 4) + i)

/-- The quarter of the neighbour along `x`, of the neighbour along `y`, and of the fourth device. -/
def qx (q : ℕ) : ℕ := (q + 2) % 4
/-- The quarter of the neighbour along `y`. -/
def qy (q : ℕ) : ℕ := 2 * (q / 2) + (q + 1) % 2
/-- The quarter of the fourth device. -/
def qd (q : ℕ) : ℕ := 3 - q

/-- The block of the result transfer `t` writes at the device `c` that receives it (a transfer of the reduction writes
    none: the value there is not used). -/
def Tr.dst (t : Tr) (c : Dev nD) : Fin 32 :=
  match t with
  | .z _ _ => 0
  | .ag r i => blk (c.val / 4) (c.val % 4 + 4 - r.val) i.val
  | .xy r i l => if l = 0 then blk (qx (c.val / 4)) (c.val % 4 + 5 - r.val) i.val else blk (qy (c.val / 4)) (c.val % 4 + 5 - r.val) i.val
  | .p2 j l => blk (qd (c.val / 4)) (c.val % 4 + 5 - j.val) l.val

/-- The block of the result transfer `t` of device `c` carries. -/
def Tr.src (t : Tr) (c : Dev nD) : Fin 32 := t.dst (t.peer c)

/-- Half `i` of the chunk device `c` finishes the reduction of. -/
def own (c : Dev nD) (i : Fin 2) : Fin 32 := blk (c.val / 4) (c.val % 4 + 1) i.val

/-- Whether a transfer belongs to the reduction along `z`. -/
def Tr.isZ : Tr → Bool
  | .z _ _ => true
  | _ => false

/-- Whether a transfer carries a half that the device itself has summed (so that its source is the accumulator). -/
def Tr.first : Tr → Bool
  | .ag r _ => r = 0
  | .xy r _ _ => r = 0
  | _ => false

/-- What is sent on out of the block that transfer `t` brought. -/
def Tr.fwd : Tr → Finset Tr
  | .ag r i => if r = 0 then {.ag 1 i, .xy 1 i 0, .xy 1 i 1} else if r = 1 then {.ag 2 i, .xy 2 i 0, .xy 2 i 1} else {.xy 3 i 0, .xy 3 i 1}
  | .xy r i l => if i = 0 ∧ l = 1 then {.p2 r 0} else if i = 1 ∧ l = 0 then {.p2 r 1} else ∅
  | _ => ∅

/-- The blocks a device receives, with the two it finishes itself, are all the blocks, each once. -/
theorem blocks_split (c : Dev nD) : (Finset.univ : Finset (Fin 32)) =
    ((Finset.univ.filter fun t : Tr => t.isZ = false).image fun t => t.dst c) ∪ {own c 0, own c 1} := by
  revert c; decide +kernel
/-- Two different transfers outside the reduction write different blocks of a device's result. -/
theorem dst_inj (c : Dev nD) : ∀ t t' : Tr, t.isZ = false → t'.isZ = false → t.dst c = t'.dst c → t = t' := by
  have : ∀ c : Dev nD, ((order.filter fun t => !t.isZ).map fun t => t.dst c).Nodup := by decide +kernel
  intro t t' h h' he
  exact List.inj_on_of_nodup_map (this c) (List.mem_filter.mpr ⟨mem_order t, by rw [h]; rfl⟩)
    (List.mem_filter.mpr ⟨mem_order t', by rw [h']; rfl⟩) he
/-- A transfer outside the reduction writes neither of the two blocks that the device finishes itself. -/
theorem dst_ne_own (c : Dev nD) : ∀ (t : Tr) (i : Fin 2), t.isZ = false → t.dst c ≠ own c i := by
  revert c; decide +kernel
/-- The two blocks that a device finishes are different. -/
theorem own_ne (c : Dev nD) : own c 0 ≠ own c 1 := by revert c; decide

/-- A first transfer carries a half of the chunk the device has finished. -/
theorem src_first (c : Dev nD) : (∀ i, (Tr.ag 0 i).src c = own c i) ∧ ∀ i l, (Tr.xy 0 i l).src c = own c i := by
  revert c; decide +kernel

/-- What is sent on is the block that came. -/
theorem src_fwd (c : Dev nD) : ∀ t t' : Tr, t' ∈ t.fwd → t'.src c = t.dst c := by revert c; decide +kernel

/-! ## The order of sends and waits -/

/-- What a device does with its transfers, in order: send one, wait until one it sent has left, wait until one has
    arrived. -/
inductive Act
  | snd (t : Tr) | ws (t : Tr) | wr (t : Tr)
  deriving DecidableEq

open Act Tr in
/-- Every device's sends and waits, in program order. -/
def acts : List Act :=
  [snd (z 0 0), snd (z 0 1), snd (z 0 2), snd (z 0 3),
    ws (z 0 0), wr (z 0 0), snd (z 1 0), ws (z 0 1), wr (z 0 1), snd (z 1 1), ws (z 0 2), wr (z 0 2), snd (z 1 2),
    ws (z 0 3), wr (z 0 3), snd (z 1 3),
    ws (z 1 0), wr (z 1 0), snd (z 2 0), ws (z 1 1), wr (z 1 1), snd (z 2 1), ws (z 1 2), wr (z 1 2), snd (z 2 2),
    ws (z 1 3), wr (z 1 3), snd (z 2 3),
    ws (z 2 0), wr (z 2 0), ws (z 2 1), wr (z 2 1), snd (xy 0 0 0), snd (xy 0 0 1), snd (ag 0 0),
    ws (z 2 2), wr (z 2 2), ws (z 2 3), wr (z 2 3), snd (xy 0 1 0), snd (xy 0 1 1), snd (ag 0 1),
    ws (ag 0 0), wr (ag 0 0), snd (ag 1 0), snd (xy 1 0 0), snd (xy 1 0 1), ws (ag 0 1), wr (ag 0 1),
    snd (ag 1 1), snd (xy 1 1 0), snd (xy 1 1 1), wr (xy 0 0 0), wr (xy 0 1 0), wr (xy 0 0 1), wr (xy 0 1 1),
    snd (p2 0 0), snd (p2 0 1),
    ws (ag 1 0), wr (ag 1 0), snd (ag 2 0), snd (xy 2 0 0), snd (xy 2 0 1), ws (ag 1 1), wr (ag 1 1),
    snd (ag 2 1), snd (xy 2 1 0), snd (xy 2 1 1), wr (xy 1 0 0), wr (xy 1 1 0), wr (xy 1 0 1), wr (xy 1 1 1),
    snd (p2 1 0), snd (p2 1 1),
    ws (ag 2 0), wr (ag 2 0), snd (xy 3 0 0), snd (xy 3 0 1), ws (ag 2 1), wr (ag 2 1),
    snd (xy 3 1 0), snd (xy 3 1 1), wr (xy 2 0 0), wr (xy 2 1 0), wr (xy 2 0 1), wr (xy 2 1 1),
    snd (p2 2 0), snd (p2 2 1), wr (xy 3 0 0), wr (xy 3 1 0), wr (xy 3 0 1), wr (xy 3 1 1), snd (p2 3 0), snd (p2 3 1),
    ws (xy 0 0 0), ws (xy 0 1 0), ws (xy 0 0 1), ws (xy 0 1 1), ws (xy 1 0 0), ws (xy 1 1 0), ws (xy 1 0 1), ws (xy 1 1 1),
    ws (xy 2 0 0), ws (xy 2 1 0), ws (xy 2 0 1), ws (xy 2 1 1), ws (xy 3 0 0), ws (xy 3 1 0), ws (xy 3 0 1), ws (xy 3 1 1),
    ws (p2 0 0), wr (p2 0 0), ws (p2 0 1), wr (p2 0 1), ws (p2 1 0), wr (p2 1 0), ws (p2 1 1), wr (p2 1 1),
    ws (p2 2 0), wr (p2 2 0), ws (p2 2 1), wr (p2 2 1), ws (p2 3 0), wr (p2 3 0), ws (p2 3 1), wr (p2 3 1)]

/-- The transfers not yet sent before step `n`, those not yet waited for at the sender, and those at the receiver. -/
def dS (n : ℕ) : Finset Tr := Finset.univ.filter fun t => Act.snd t ∈ acts.drop n
/-- The transfers not yet waited for at the sender before step `n`. -/
def wS (n : ℕ) : Finset Tr := Finset.univ.filter fun t => Act.ws t ∈ acts.drop n
/-- The transfers not yet waited for at the receiver before step `n`. -/
def rS (n : ℕ) : Finset Tr := Finset.univ.filter fun t => Act.wr t ∈ acts.drop n

/-- The transfers out of the result, or of the finished accumulator, whose source a device holds before step `n`, from
    step 42 on: it has arrived, and is not in flight. -/
def hS (n : ℕ) : Finset Tr :=
  Finset.univ.filter fun t => t.isZ = false ∧ (t ∉ wS n ∨ t ∈ dS n ∧ ∃ t', t' ∉ rS n ∧ t ∈ t'.fwd)

/-- The transfers into the result that have arrived before step `n`. -/
def aS (n : ℕ) : Finset Tr := Finset.univ.filter fun t => t.isZ = false ∧ t ∉ rS n

/-- No step comes twice. -/
theorem acts_nodup : acts.Nodup := by decide +kernel

/-- The steps from step `n` on are step `n` and the steps after it. -/
theorem drop_at {n : ℕ} {a : Act} (h : acts[n]? = some a) : acts.drop n = a :: acts.drop (n + 1) := by
  obtain ⟨hn, rfl⟩ := List.getElem?_eq_some_iff.mp h
  exact List.drop_eq_getElem_cons hn

/-- A step does not come again after itself. -/
theorem notMem_drop {n : ℕ} {a : Act} (h : acts[n]? = some a) : a ∉ acts.drop (n + 1) := by
  have := (acts_nodup.sublist (List.drop_sublist n acts))
  rw [drop_at h] at this
  exact (List.nodup_cons.mp this).1

/-- A send at step `n` takes its transfer off the ones not yet sent, and changes nothing else. -/
theorem snd_at {n : ℕ} {t : Tr} (h : acts[n]? = some (.snd t)) :
    dS n = insert t (dS (n + 1)) ∧ t ∉ dS (n + 1) ∧ wS n = wS (n + 1) ∧ rS n = rS (n + 1) := by
  refine ⟨?_, ?_, ?_, ?_⟩
  · ext t'; simp only [dS, drop_at h, Finset.mem_filter, Finset.mem_insert, List.mem_cons, Act.snd.injEq, Finset.mem_univ, true_and]
  · simp only [dS, Finset.mem_filter, not_and]; exact fun _ => notMem_drop h
  · ext t'; simp only [wS, drop_at h, Finset.mem_filter, List.mem_cons, reduceCtorEq, false_or]
  · ext t'; simp only [rS, drop_at h, Finset.mem_filter, List.mem_cons, reduceCtorEq, false_or]

/-- A wait at the sender takes its transfer off the ones not yet waited for there, and changes nothing else. -/
theorem ws_at {n : ℕ} {t : Tr} (h : acts[n]? = some (.ws t)) :
    wS n = insert t (wS (n + 1)) ∧ t ∉ wS (n + 1) ∧ dS n = dS (n + 1) ∧ rS n = rS (n + 1) := by
  refine ⟨?_, ?_, ?_, ?_⟩
  · ext t'; simp only [wS, drop_at h, Finset.mem_filter, Finset.mem_insert, List.mem_cons, Act.ws.injEq, Finset.mem_univ, true_and]
  · simp only [wS, Finset.mem_filter, not_and]; exact fun _ => notMem_drop h
  · ext t'; simp only [dS, drop_at h, Finset.mem_filter, List.mem_cons, reduceCtorEq, false_or]
  · ext t'; simp only [rS, drop_at h, Finset.mem_filter, List.mem_cons, reduceCtorEq, false_or]

/-- A wait at the receiver takes its transfer off the ones not yet waited for there, and changes nothing else. -/
theorem wr_at {n : ℕ} {t : Tr} (h : acts[n]? = some (.wr t)) :
    rS n = insert t (rS (n + 1)) ∧ t ∉ rS (n + 1) ∧ dS n = dS (n + 1) ∧ wS n = wS (n + 1) := by
  refine ⟨?_, ?_, ?_, ?_⟩
  · ext t'; simp only [rS, drop_at h, Finset.mem_filter, Finset.mem_insert, List.mem_cons, Act.wr.injEq, Finset.mem_univ, true_and]
  · simp only [rS, Finset.mem_filter, not_and]; exact fun _ => notMem_drop h
  · ext t'; simp only [dS, drop_at h, Finset.mem_filter, List.mem_cons, reduceCtorEq, false_or]
  · ext t'; simp only [wS, drop_at h, Finset.mem_filter, List.mem_cons, reduceCtorEq, false_or]

/-- There are 126 steps. -/
theorem lt_of_act {n : ℕ} {a : Act} (h : acts[n]? = some a) : n < 126 :=
  (List.getElem?_eq_some_iff.mp h).1.trans_le (by decide +kernel)

/-- A transfer waited for at the sender has been sent. -/
theorem ws_sent {n : ℕ} {t : Tr} (h : acts[n]? = some (.ws t)) : t ∉ dS n := by
  have : ∀ n < 126, ∀ t, acts[n]? = some (.ws t) → t ∉ dS n := by decide +kernel
  exact this n (lt_of_act h) t h
/-- One sent has not been waited for before. -/
theorem snd_live {n : ℕ} {t : Tr} (h : acts[n]? = some (.snd t)) : t ∈ wS n := by
  have : ∀ n < 126, ∀ t, acts[n]? = some (.snd t) → t ∈ wS n := by decide +kernel
  exact this n (lt_of_act h) t h
/-- When a transfer is waited for at its receiver, all that is still to be sent comes after it in the sending order. -/
theorem wr_below {n : ℕ} {t : Tr} (h : acts[n]? = some (.wr t)) : ∀ t' ∈ dS n, t.pos < t'.pos := by
  have : ∀ n < 126, ∀ t, acts[n]? = some (.wr t) → ∀ t' ∈ dS n, t.pos < t'.pos := by decide +kernel
  exact this n (lt_of_act h) t h

/-- From step 42 on: a send takes its source off those held, -/
theorem hS_snd {n : ℕ} {t : Tr} (h : acts[n]? = some (.snd t)) (hn : 42 ≤ n) :
    hS n = insert t (hS (n + 1)) ∧ t ∉ hS (n + 1) ∧ aS n = aS (n + 1) ∧ t.first = false ∧ t.isZ = false := by
  have : ∀ n < 126, ∀ t, acts[n]? = some (.snd t) → 42 ≤ n →
      hS n = insert t (hS (n + 1)) ∧ t ∉ hS (n + 1) ∧ aS n = aS (n + 1) ∧ t.first = false ∧ t.isZ = false := by decide +kernel
  exact this n (lt_of_act h) t h hn
/-- a wait at the sender brings it back, -/
theorem hS_ws {n : ℕ} {t : Tr} (h : acts[n]? = some (.ws t)) (hn : 42 ≤ n) :
    hS (n + 1) = insert t (hS n) ∧ t ∉ hS n ∧ aS n = aS (n + 1) ∧ t.isZ = false := by
  have : ∀ n < 126, ∀ t, acts[n]? = some (.ws t) → 42 ≤ n →
      hS (n + 1) = insert t (hS n) ∧ t ∉ hS n ∧ aS n = aS (n + 1) ∧ t.isZ = false := by decide +kernel
  exact this n (lt_of_act h) t h hn
/-- and a wait at the receiver brings what is sent on out of the block that came. -/
theorem hS_wr {n : ℕ} {t : Tr} (h : acts[n]? = some (.wr t)) (hn : 42 ≤ n) :
    hS (n + 1) = t.fwd ∪ hS n ∧ Disjoint t.fwd (hS n) ∧ aS (n + 1) = insert t (aS n) ∧ t ∉ aS n ∧ t.isZ = false := by
  have : ∀ n < 126, ∀ t, acts[n]? = some (.wr t) → 42 ≤ n →
      hS (n + 1) = t.fwd ∪ hS n ∧ Disjoint t.fwd (hS n) ∧ aS (n + 1) = insert t (aS n) ∧ t ∉ aS n ∧ t.isZ = false := by decide +kernel
  exact this n (lt_of_act h) t h hn

/-- At step 42 no source is held, and nothing has arrived. -/
theorem hS_start : hS 42 = ∅ ∧ aS 42 = ∅ := by decide +kernel
/-- At the start every transfer is to be sent, and to be waited for at both ends. -/
theorem sets_start : dS 0 = Finset.univ ∧ wS 0 = Finset.univ ∧ rS 0 = Finset.univ := by decide +kernel
/-- At the end none is. -/
theorem sets_end : dS 126 = ∅ ∧ wS 126 = ∅ ∧ rS 126 = ∅ := by decide +kernel
/-- At the end the sources of all transfers outside the reduction, and the rest of all blocks that came, are held. -/
theorem held_end : hS 126 = Finset.univ.filter (fun t : Tr => t.isZ = false) ∧ aS 126 = Finset.univ.filter fun t : Tr => t.isZ = false := by
  decide +kernel

/-- The transfers outside the reduction are the first ones and those sent on. -/
theorem split_fwd : Finset.univ.filter (fun t : Tr => t.isZ = false)
    = (Finset.univ.filter fun t : Tr => t.first = true) ∪ (Finset.univ.filter fun t : Tr => t.isZ = false).biUnion Tr.fwd := by
  decide +kernel
/-- What is sent on out of two different blocks is different. -/
theorem fwd_disjoint : ∀ t t' : Tr, t ≠ t' → Disjoint t.fwd t'.fwd := by decide +kernel
/-- What is sent on out of a block that came is neither a first transfer nor one of the reduction. -/
theorem fwd_not_first : ∀ t t' : Tr, t' ∈ t.fwd → t'.first = false ∧ t'.isZ = false := by decide +kernel

end Cert.KernelIdeal.AllReduce
-- ==== Proof.Base.lean ====
/-
The memory the transfers move, what it holds at each step, and the schedule of the semaphore cells: who credits which
cell, and what a credit hands over.

PROTOCOL. Every device first tells its four neighbours, on the runtime's barrier semaphore, that it has started, and
waits for all four. With the signal to a neighbour goes the memory that neighbour will write on this device: the slots
of the reduction and the blocks of the result. After the barrier each transfer has two cells of its own, one at each
end, credited once: the sender's cell gives the source back, the receiver's gives the destination with what came.
-/
module

public import proofs.«01_k».proof.Proof.Proto
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.ValueIdxCore
public import Idealize.ShloMosaic.Lib.Transfers
public import Idealize.ShloMosaic.Lib.Tactic

@[expose] public section

/-! # Contents and ownership: the pieces of the buffers, what they hold, what each semaphore hands over, and the levels. -/

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-- The ghost state of the rounds, over all semaphore cells. -/
abbrev UB : Type := URounds (GSem nD τ sig) (Fin 4)
/-- The pipeline library's algebra, the schedule's, and the counters of the local copies. -/
abbrev UU : Type := UR sig nD τ × (UB × Counters)

local notation "𝕄" => MT nD τ sig Unit (Elt F) ℕ UU ℕ

/-- Where the memory's ghost state lies. -/
abbrev EP : Emb (UR sig nD τ) (MT nD τ sig Unit (Elt F) ℕ UU ℕ) := embL
/-- The schedule's embedding. -/
def ER : Emb UB (MT nD τ sig Unit (Elt F) ℕ UU ℕ) := (Emb.inl : Emb UB (UB × Counters)).trans embR
instance ER_landsIn : (ER : Emb UB 𝕄).LandsIn (upEmb : UEmb _ 𝕄) := by unfold ER embR; infer_instance

variable (m : (ℓ : Loc nD τ sig) → Buf (Elt F) ℓ)

/-! ## Views -/

/-- The argument. -/
abbrev xM : Memref sig .tc .hbm S16384x1024 .f32 := Memref.whole main_arg0
/-- The result. -/
abbrev oM : Memref sig .tc .hbm S16384x1024 .f32 := Memref.whole main_v1
/-- The landing slots of the reduction, the accumulator, and the local chunk to be added. -/
abbrev sM : Memref sig .tc .vmem S3x4x256x1024 .f32 := Memref.whole cc0_scratch0
/-- The accumulator. -/
abbrev aM : Memref sig .tc .vmem S1024x1024 .f32 := Memref.whole cc0_scratch1
/-- The local chunk to be added. -/
abbrev yM : Memref sig .tc .vmem S1024x1024 .f32 := Memref.whole cc0_scratch2

/-- A block of 512 rows lies within the result. -/
theorem out_inb (b : Fin 32) : ∀ a, (![512 * b.val, 0] : Fin 2 → ℕ) a + S512x1024.size a ≤ S16384x1024.size a := by
  revert b; decide
/-- A half of 512 rows lies within the accumulator. -/
theorem half_inb (i : Fin 2) : ∀ a, (![512 * i.val, 0] : Fin 2 → ℕ) a + S512x1024.size a ≤ S1024x1024.size a := by
  revert i; decide
/-- A sub-block of 256 rows lies within the accumulator. -/
theorem sub_inb (s : Fin 4) : ∀ a, (![256 * s.val, 0] : Fin 2 → ℕ) a + S256x1024.size a ≤ S1024x1024.size a := by
  revert s; decide
/-- A landing slot lies within the array of the slots. -/
theorem slot_inb (h : Fin 3) (s : Fin 4) :
    ∀ a, (![h.val, s.val, 0, 0] : Fin 4 → ℕ) a + S1x1x256x1024.size a ≤ S3x4x256x1024.size a := by
  revert h s; decide

/-- Block `b` of the result. -/
abbrev outV (b : Fin 32) : Memref sig .tc .hbm S512x1024 .f32 :=
  oM.slice (Rect.unit (s := S16384x1024) ![512 * b.val, 0] S512x1024.size (out_inb b)) (fun _ => rfl)
/-- Half `i` of the accumulator. -/
abbrev halfV (i : Fin 2) : Memref sig .tc .vmem S512x1024 .f32 :=
  aM.slice (Rect.unit (s := S1024x1024) ![512 * i.val, 0] S512x1024.size (half_inb i)) (fun _ => rfl)
/-- Sub-block `s` of the accumulator. -/
abbrev subV (s : Fin 4) : Memref sig .tc .vmem S256x1024 .f32 :=
  aM.slice (Rect.unit (s := S1024x1024) ![256 * s.val, 0] S256x1024.size (sub_inb s)) (fun _ => rfl)
/-- The same rows of the local chunk. -/
abbrev subY (s : Fin 4) : Memref sig .tc .vmem S256x1024 .f32 :=
  yM.slice (Rect.unit (s := S1024x1024) ![256 * s.val, 0] S256x1024.size (sub_inb s)) (fun _ => rfl)
/-- Slot `s` of hop `h`. -/
abbrev slotV (h : Fin 3) (s : Fin 4) : Memref sig .tc .vmem S256x1024 .f32 :=
  (sM.slice (Rect.unit (s := S3x4x256x1024) ![h.val, s.val, 0, 0] S1x1x256x1024.size (slot_inb h s)) (fun _ => rfl)).squeeze
    S256x1024 squeezes_S1x1x256x1024_S256x1024

/-! ## Contents -/

/-- Device `c`'s block of the argument. -/
abbrev xOf (c : Dev nD) : S16384x1024.Idx → Elt F .f32 := m ((c : Thread nD τ).loc main_arg0)

/-- Row `i` of chunk `k` of device `c`'s quarter, as a row of the whole block. -/
def rowIx (c : Dev nD) (k : ℕ) (i : Fin 1024) : Fin 16384 :=
  ⟨4096 * (c.val / 4) + 1024 * (k % 4) + i.val, by have h : c.val < 16 := c.isLt; have := i.isLt; omega⟩

/-- Chunk `k` of device `c`'s quarter of its block. -/
def xch (c : Dev nD) (k : ℕ) : S1024x1024.Idx → Elt F .f32 := fun i => xOf m c (ix2 (rowIx c k (i 0)) (i 1))

/-- The partial sum device `c` holds after `h` hops: what came from the previous device, plus its own chunk. -/
def acc : ℕ → Dev nD → S1024x1024.Idx → Elt F .f32
  | 0, c => xch m c (c.val % 4)
  | h + 1, c => fun i => FloatOps.addf (acc h (zl c) i) (xch m c (c.val % 4 + 3 - h) i)

/-- The device that finishes the chunk a row lies in. -/
def rowDev (r : Fin 16384) : Dev nD :=
  ⟨4 * (r.val / 4096) + (r.val / 1024 + 3) % 4, by have := r.isLt; show _ < 16; omega⟩

/-- The result, the same on every device. -/
def Out : S16384x1024.Idx → Elt F .f32 :=
  fun i => acc m 3 (rowDev (i 0)) (ix2 ⟨(i 0).val % 1024, Nat.mod_lt _ (by decide)⟩ (i 1))

/-! ## Ownership of the pieces -/

/-- Block `b` of device `c`'s result, holding `f` there. -/
def outAt (q : PosShare TreeShare) (c : Dev nD) (b : Fin 32) (f : S16384x1024.Idx → Elt F .f32) : sProp 𝕄 :=
  (outV b).view.loc (c : Thread nD τ) ↦[(outV b).view.set]{q} f
/-- Half `i` of device `c`'s accumulator. -/
def halfAt (q : PosShare TreeShare) (c : Dev nD) (i : Fin 2) (f : S1024x1024.Idx → Elt F .f32) : sProp 𝕄 :=
  (halfV i).view.loc (c : Thread nD τ) ↦[(halfV i).view.set]{q} f
/-- Sub-block `s` of device `c`'s accumulator. -/
def subAt (c : Dev nD) (s : Fin 4) (f : S1024x1024.Idx → Elt F .f32) : sProp 𝕄 :=
  (subV s).view.loc (c : Thread nD τ) ↦[(subV s).view.set]{fullShare} f
/-- Slot `s` of hop `h` on device `c`. -/
def slotAt (c : Dev nD) (h : Fin 3) (s : Fin 4) (f : S3x4x256x1024.Idx → Elt F .f32) : sProp 𝕄 :=
  (slotV h s).view.loc (c : Thread nD τ) ↦[(slotV h s).view.set]{fullShare} f

instance (q : PosShare TreeShare) (c : Dev nD) (b f) : BI.Storable (upEmb : UEmb _ 𝕄) (outAt (F := F) q c b f) := by
  unfold outAt; infer_instance
instance (q : PosShare TreeShare) (c : Dev nD) (b f) : BI.Storable (upEmb : UEmb _ 𝕄) (halfAt (F := F) q c b f) := by
  unfold halfAt; infer_instance
instance (c : Dev nD) (s f) : BI.Storable (upEmb : UEmb _ 𝕄) (subAt (F := F) c s f) := by
  unfold subAt; infer_instance
instance (c : Dev nD) (h s f) : BI.Storable (upEmb : UEmb _ 𝕄) (slotAt (F := F) c h s f) := by
  unfold slotAt; infer_instance

/-- The share of its source a transfer holds: a chunk goes out along `x`, along `y` and along `z` at once. -/
def Tr.share : Tr → PosShare TreeShare
  | .ag _ _ => fullShare.right.left
  | .xy _ _ l => if l = 0 then fullShare.left.left else fullShare.left.right
  | _ => fullShare

/-- The half of the accumulator a first transfer carries. -/
def Tr.half : Tr → Fin 2
  | .ag _ i => i
  | .xy _ i _ => i
  | _ => 0

/-- The source of device `c`'s transfer `t`, as sent and as given back. -/
def SPay (c : Dev nD) : Tr → sProp 𝕄
  | .z h s => subAt c s (acc m h.val c)
  | t => if t.first then halfAt t.share c t.half (acc m 3 c) else outAt t.share c (t.src c) (Out m)

/-- What transfer `t` leaves at the device `c` that receives it. -/
def RPay (c : Dev nD) : Tr → sProp 𝕄
  | .z h s => iprop(∃ f, ⌜(slotV h s).view.read (Elt F) f = (subV s).view.read (Elt F) (acc m h.val (zl c))⌝ ∗ slotAt c h s f)
  | t => outAt fullShare c (t.dst c) (Out m)

/-- The memory on device `c` that transfer `t` will write, before. -/
def Land (c : Dev nD) : Tr → sProp 𝕄
  | .z h s => iprop(∃ f, slotAt c h s f)
  | t => iprop(∃ f, outAt fullShare c (t.dst c) f)

/-- A transfer outside the reduction leaves its block of the result, finished. -/
theorem RPay_out (c : Dev nD) {t : Tr} (h : t.isZ = false) : RPay m c t = outAt fullShare c (t.dst c) (Out m) := by
  cases t <;> first | rfl | cases h
/-- Before, that block holds anything. -/
theorem Land_out (c : Dev nD) {t : Tr} (h : t.isZ = false) :
    (Land c t : sProp 𝕄) = iprop(∃ f, outAt fullShare c (t.dst c) f) := by
  cases t <;> first | rfl | cases h
/-- The source of a transfer that sends a block on is that block of the result, finished. -/
theorem SPay_out (c : Dev nD) {t : Tr} (h : t.isZ = false) (hf : t.first = false) :
    SPay m c t = outAt t.share c (t.src c) (Out m) := by
  have e : SPay m c t = if t.first then halfAt t.share c t.half (acc m 3 c) else outAt t.share c (t.src c) (Out m) := by
    cases t <;> first | rfl | cases h
  rw [e, hf]; rfl
/-- The source of a first transfer is its half of the finished accumulator. -/
theorem SPay_half (c : Dev nD) {t : Tr} (hf : t.first = true) :
    SPay m c t = halfAt t.share c t.half (acc m 3 c) := by
  have e : SPay m c t = if t.first then halfAt t.share c t.half (acc m 3 c) else outAt t.share c (t.src c) (Out m) := by
    cases t <;> first | rfl | cases hf
  rw [e, hf]; rfl

instance (c : Dev nD) (t : Tr) : BI.Storable (upEmb : UEmb _ 𝕄) (SPay m c t) := by
  cases t <;> simp only [SPay] <;> (try split) <;> infer_instance
instance (c : Dev nD) (t : Tr) : BI.Storable (upEmb : UEmb _ 𝕄) (RPay m c t) := by
  cases t <;> simp only [RPay] <;> infer_instance
instance (c : Dev nD) (t : Tr) : BI.Storable (upEmb : UEmb _ 𝕄) (Land (F := F) c t) := by
  cases t <;> simp only [Land] <;> infer_instance

/-! ## Cells -/

/-- The runtime's barrier semaphore. -/
abbrev barS : Sem sig := (SemArray.scalar (sig.barrier 0 rfl) : Sems sig S_).sem

/-- A transfer's semaphore at one end: at its sender (`false`), at its receiver (`true`). -/
def endNum (p : Tr × Bool) : ℕ := if p.2 then p.1.rNum else p.1.sNum
/-- The number of an end's semaphore is within the kernel's 86. -/
theorem endNum_lt (p : Tr × Bool) : endNum p < 86 := by
  unfold endNum; split; exacts [p.1.rNum_lt, p.1.sNum_lt]
/-- The DMA semaphore of an end. -/
def endSem (p : Tr × Bool) : DmaSem sig := ⟨endNum p, endNum_lt p⟩

/-- The end a DMA semaphore is. -/
def endOf (q : DmaSem sig) : Option (Tr × Bool) :=
  (order.map (·, false) ++ order.map (·, true)).find? fun p => endNum p = q.val

/-- The end of an end's semaphore is that end. -/
theorem endOf_endSem (p : Tr × Bool) : endOf (endSem p) = some p := by
  have : ∀ p : Tr × Bool, endOf (endSem p) = some p := by decide +kernel
  exact this p
/-- Different ends have different semaphores. -/
theorem endSem_inj : Function.Injective endSem := fun p p' h => by
  have := congrArg endOf h; rw [endOf_endSem, endOf_endSem] at this; exact Option.some.inj this

/-- Device `c`'s barrier cell. -/
abbrev barCell (c : Dev nD) : GSem nD τ sig := ((c : Thread nD τ), .reg barS)
/-- The cell on device `c` of an end of a transfer. -/
abbrev endCell (c : Dev nD) (p : Tr × Bool) : GSem nD τ sig := ((c : Thread nD τ), .dma (endSem p))
/-- The cell on device `c` that its own transfer `t` credits when it has left. -/
abbrev sCell (c : Dev nD) (t : Tr) : GSem nD τ sig := endCell c (t, false)
/-- The cell on device `c` that the transfer `t` which comes to it credits. -/
abbrev rCell (c : Dev nD) (t : Tr) : GSem nD τ sig := endCell c (t, true)

/-- What a transfer of a sub-block, and of a half, credits each of its cells. -/
def N (t : Tr) : ℕ := if t.isZ then (subV 0).view.dmaCredit else (halfV 0).view.dmaCredit
/-- A transfer credits something. -/
theorem N_pos (t : Tr) : 0 < N t := by
  unfold N; split <;> exact View.dmaCredit_pos _ (by decide)

/-- What the signal of duty `d` hands device `c`: the memory `c` will write on the neighbour that signals (`0` along
    `z`, `1` along `x`, `2` along `y`; the previous device along `z`, `3`, hands nothing). -/
def barPay (c : Dev nD) (d : Fin 4) : sProp 𝕄 :=
  bigSep (Finset.univ.filter fun t : Tr => t.dir.val = d.val) fun t => Land (t.peer c) t

instance (c : Dev nD) (d : Fin 4) : BI.Storable (upEmb : UEmb _ 𝕄) (barPay (F := F) c d) := by
  unfold barPay; infer_instance

/-- What the credit of a cell's transfer hands its owner. -/
def endPay (c : Dev nD) : Option (Tr × Bool) → sProp 𝕄
  | none => iprop(emp)
  | some (t, false) => SPay m c t
  | some (t, true) => RPay m c t

instance (c : Dev nD) (o) : BI.Storable (upEmb : UEmb _ 𝕄) (endPay m c o) := by
  rcases o with _ | ⟨t, _ | _⟩ <;> simp only [endPay] <;> infer_instance

/-- One round: the barrier cell has four duties of one unit, each cell of a transfer the duty `0` of what it credits. -/
def Rd : Rounds.Schedule (GSem nD τ sig) (Fin 4) 𝕄 where
  duties g r := if r = 0 ∧ g.1.2 = .tc then
      (match g.2 with
        | .reg s => if s = barS then Finset.univ else ∅
        | .dma q => if (endOf q).isSome then {0} else ∅) else ∅
  unitless _ := False
  amount g _ _ := match g.2 with
    | .reg _ => 1
    | .dma q => match endOf q with | some p => N p.1 | none => 1
  payload g _ d := match g.2 with
    | .reg _ => barPay g.1.1 d
    | .dma q => endPay m g.1.1 (endOf q)
  amount_pos g _ _ _ := by
    rcases g with ⟨_, s | q⟩
    · exact Nat.one_pos
    · dsimp only; split; exacts [N_pos _, Nat.one_pos]

instance Rd_storable (g : GSem nD τ sig) (r : ℕ) (d : Fin 4) : BI.Storable (upEmb : UEmb _ 𝕄) ((Rd m).payload g r d) := by
  rcases g with ⟨_, s | q⟩ <;> simp only [Rd] <;> infer_instance

section Sched
variable (c : Dev nD) (p : Tr × Bool)

/-- The barrier cell has all four duties. -/
theorem duties_bar : (Rd m).duties (barCell c) 0 = Finset.univ := by
  dsimp only [Rd]; rw [if_pos ⟨rfl, rfl⟩, if_pos rfl]
/-- A transfer's cell has the duty `0` alone. -/
theorem duties_end : (Rd m).duties (endCell c p) 0 = {0} := by
  dsimp only [Rd]; rw [if_pos ⟨rfl, rfl⟩, endOf_endSem]; rfl
/-- No cell has a duty after the first round. -/
theorem duties_later (g : GSem nD τ sig) : ∀ r, 1 ≤ r → (Rd m).duties g r = ∅ :=
  fun r hr => by dsimp only [Rd]; rw [if_neg fun h => by omega]

/-- A duty of the barrier is one unit. -/
theorem amount_bar (d : Fin 4) : (Rd m).amount (barCell c) 0 d = 1 := rfl
/-- The duty of a transfer's cell is what the transfer credits. -/
theorem amount_end (d : Fin 4) : (Rd m).amount (endCell c p) 0 d = N p.1 := by
  dsimp only [Rd]; rw [endOf_endSem]
/-- What a duty of the barrier hands over. -/
theorem payload_bar (d : Fin 4) : (Rd m).payload (barCell c) 0 d = barPay c d := rfl
/-- What the duty of a sender's cell hands over: the source. -/
theorem payload_s (t : Tr) (d : Fin 4) : (Rd m).payload (sCell c t) 0 d = SPay m c t := by
  dsimp only [Rd]; rw [endOf_endSem]; rfl
/-- What the duty of a receiver's cell hands over: what landed. -/
theorem payload_r (t : Tr) (d : Fin 4) : (Rd m).payload (rCell c t) 0 d = RPay m c t := by
  dsimp only [Rd]; rw [endOf_endSem]; rfl

/-- A round of the barrier is four units. -/
theorem expect_bar : (Rd m).expect (barCell c) 0 = 4 := by
  unfold Schedule.expect Schedule.amountOf
  rw [duties_bar, Finset.sum_congr rfl fun d _ => amount_bar m c d]; rfl
/-- A round of a transfer's cell is what the transfer credits. -/
theorem expect_end : (Rd m).expect (endCell c p) 0 = N p.1 := by
  unfold Schedule.expect Schedule.amountOf; rw [duties_end, Finset.sum_singleton, amount_end]

/-- The wait on the barrier gets what all four signals hand over. -/
theorem rest_bar : bigSep ((Rd m).duties (barCell c) 0 \ ∅) (fun d => (Rd m).payload (barCell c) 0 d)
    = bigSep Finset.univ fun d : Fin 4 => (barPay c d : sProp 𝕄) := by
  rw [Finset.sdiff_empty, duties_bar]; rfl
/-- The wait on a transfer's cell gets what the transfer hands over there. -/
theorem rest_end : bigSep ((Rd m).duties (endCell c p) 0 \ ∅) (fun d => (Rd m).payload (endCell c p) 0 d)
    = endPay m c (some p) := by
  rw [Finset.sdiff_empty, duties_end, bigSep_singleton]
  dsimp only [Rd]; rw [endOf_endSem]

end Sched

/-! ## What a device owes, and the levels -/

/-- The units a device owes when the transfers of `D` are still to be sent. -/
def debt (c : Dev nD) (D : Finset Tr) : CellTallies nD τ sig Unit := ∑ t ∈ D, tallyAt (rCell (t.peer c) t) () (N t)

/-- One more transfer to be sent is its credit more of debt. -/
theorem debt_insert (c : Dev nD) {t : Tr} {D : Finset Tr} (h : t ∉ D) :
    debt c (insert t D) = debt c D + tallyAt (rCell (t.peer c) t) () (N t) := by
  unfold debt; rw [Finset.sum_insert h, add_comm]

/-- A device owes only to the receivers of transfers still to be sent. -/
theorem debt_pos {c : Dev nD} {D : Finset Tr} {g : GSem nD τ sig} {u : Unit} (h : 0 < debt c D g u) :
    ∃ t ∈ D, g = rCell (t.peer c) t := by
  unfold debt at h
  rw [Finset.sum_apply, Finsupp.finsetSum_apply] at h
  obtain ⟨t, ht, hp⟩ := Finset.exists_ne_zero_of_sum_ne_zero (Nat.pos_iff_ne_zero.mp h)
  refine ⟨t, ht, ?_⟩
  by_contra hn
  rw [tallyAt_apply, if_neg fun h' => hn h'.1] at hp
  exact hp rfl

/-- The units of a cell that have a level: those of the cells of the cores. -/
def L (g : GSem nD τ sig) : Finset Unit := if g.1.2 = .tc then {()} else ∅
/-- Cells of senders at 0, barrier cells at 1, cells of receivers above in the order of sending. -/
def lv (g : GSem nD τ sig) (_ : Unit) : ℕ := match g.2 with
  | .reg _ => 1
  | .dma q => match endOf q with | some (t, true) => 2 + t.pos | _ => 0

/-- No other cell has one. -/
theorem L_of_ne (g : GSem nD τ sig) (h : g.1.2 ≠ .tc) : L g = ∅ := if_neg h
/-- A core's cell has one. -/
theorem L_tc (c : Dev nD) (sm : SemLoc sig) : L ((c : Thread nD τ), sm) = {()} := if_pos rfl
/-- The level of a receiver's cell is given by the transfer's place in the sending order. -/
theorem lv_r (c : Dev nD) (t : Tr) : lv (rCell c t) () = 2 + t.pos := by
  dsimp only [lv]; rw [endOf_endSem]
/-- The level of a sender's cell is the lowest. -/
theorem lv_s (c : Dev nD) (t : Tr) : lv (sCell c t) () = 0 := by
  dsimp only [lv]; rw [endOf_endSem]

/-- A device may wait on a cell below all it still owes. -/
theorem mayWait (c : Dev nD) (sm : SemLoc sig) (D : Finset Tr) (h : ∀ t ∈ D, lv ((c : Thread nD τ), sm) () < 2 + t.pos) :
    (levAts L lv : sProp 𝕄) ⊢ MayWait (c : Thread nD τ) sm () (debt c D) :=
  MayOwe.of_cut (L := L) (lev := lv) (lv ((c : Thread nD τ), sm) ())
    (fun p hp => by rw [Finset.mem_singleton.mp hp, L_tc]; exact Finset.mem_singleton_self _)
    (fun g u hg => by obtain ⟨t, -, rfl⟩ := debt_pos hg; exact Finset.mem_singleton_self _)
    (fun p hp => by rw [Finset.mem_singleton.mp hp])
    (fun g u hg => by obtain ⟨t, ht, rfl⟩ := debt_pos hg; cases u; rw [lv_r]; exact h t ht)

/-! ## What the pieces hold -/

/-- Where a block's entries lie in the result. -/
theorem coord_out (b : Fin 32) (x : S512x1024.Idx) :
    (outV b).view.emb x = (ix2 ⟨512 * b.val + (x 0).val, by have := b.isLt; have : (x 0).val < 512 := (x 0).isLt; omega⟩ (x 1) : S16384x1024.Idx) := by
  funext a; fin_cases a <;> apply Fin.ext
  · show 512 * b.val + 1 * (x 0).val = _; rw [Nat.one_mul]
  · show 0 + 1 * (x 1).val = _; rw [Nat.one_mul, Nat.zero_add]
/-- Where a half's entries lie in the accumulator. -/
theorem coord_half (i : Fin 2) (x : S512x1024.Idx) :
    (halfV i).view.emb x = (ix2 ⟨512 * i.val + (x 0).val, by have := i.isLt; have : (x 0).val < 512 := (x 0).isLt; omega⟩ (x 1) : S1024x1024.Idx) := by
  funext a; fin_cases a <;> apply Fin.ext
  · show 512 * i.val + 1 * (x 0).val = _; rw [Nat.one_mul]
  · show 0 + 1 * (x 1).val = _; rw [Nat.one_mul, Nat.zero_add]

/-- The chunk a device finishes is its chunk of the result. -/
theorem read_own (c : Dev nD) (i : Fin 2) :
    (outV (own c i)).view.read (Elt F) (Out m) = (halfV i).view.read (Elt F) (acc m 3 c) := by
  funext x
  rw [View.read_apply, View.read_apply]
  show Out m ((outV (own c i)).view.emb x) = acc m 3 c ((halfV i).view.emb x)
  rw [coord_out, coord_half]
  have hx : (x 0).val < 512 := (x 0).isLt
  have hi := i.isLt
  have hc : c.val < 16 := c.isLt
  have hb : (own c i).val = 8 * (c.val / 4) + 2 * ((c.val % 4 + 1) % 4) + i.val := by
    show (8 * (c.val / 4) + 2 * ((c.val % 4 + 1) % 4) + i.val) % 32 = _
    omega
  have h1 : rowDev ⟨512 * (own c i).val + (x 0).val, by have := (own c i).isLt; omega⟩ = c := by
    apply Fin.ext
    show 4 * ((512 * (own c i).val + (x 0).val) / 4096) + ((512 * (own c i).val + (x 0).val) / 1024 + 3) % 4 = c.val
    omega
  have h2 : (512 * (own c i).val + (x 0).val) % 1024 = 512 * i.val + (x 0).val := by omega
  show acc m 3 (rowDev ⟨512 * (own c i).val + (x 0).val, _⟩) (ix2 ⟨(512 * (own c i).val + (x 0).val) % 1024, _⟩ (x 1)) = _
  rw [h1]
  congr 2
  exact Fin.ext h2

/-- A block written with what the result reads there is that block of the result. -/
theorem outAt_write (c : Dev nD) (b : Fin 32) (f : S16384x1024.Idx → Elt F .f32) (w : S512x1024.Idx → Elt F .f32)
    (h : w = (outV b).view.read (Elt F) (Out m)) :
    outAt fullShare c b ((outV b).view.write (Elt F) f w Finset.univ) = (outAt fullShare c b (Out m) : sProp 𝕄) := by
  subst h
  unfold outAt
  refine pointsTo_congr fun i hi => ?_
  obtain ⟨x, -, rfl⟩ := Finset.mem_map.mp hi
  rw [View.write_emb_of_mem _ _ (Finset.mem_univ x)]; rfl

/-- A sub-block of the accumulator written with the next partial sum holds it. -/
theorem subAt_write (c : Dev nD) (s : Fin 4) (f g : S1024x1024.Idx → Elt F .f32) (w : S256x1024.Idx → Elt F .f32)
    (h : w = (subV s).view.read (Elt F) g) :
    subAt c s ((subV s).view.write (Elt F) f w Finset.univ) = (subAt c s g : sProp 𝕄) := by
  subst h
  unfold subAt
  refine pointsTo_congr fun i hi => ?_
  obtain ⟨x, -, rfl⟩ := Finset.mem_map.mp hi
  rw [View.write_emb_of_mem _ _ (Finset.mem_univ x)]; rfl

/-- What the kernel stores after a hop is the next partial sum. -/
theorem pay_eq (c : Dev nD) (h : Fin 3) (s : Fin 4) (f : S3x4x256x1024.Idx → Elt F .f32)
    (hf : (slotV h s).view.read (Elt F) f = (subV s).view.read (Elt F) (acc m h.val (zl c))) :
    k0_pay1 ((sM.access (Rect.unit (s := S3x4x256x1024) ![h.val, s.val, 0, 0] S1x1x256x1024.size (slot_inb h s))).read (Elt F) f)
        ((yM.access (Rect.unit (s := S1024x1024) ![256 * s.val, 0] S256x1024.size (sub_inb s))).read (Elt F) (xch m c (c.val % 4 + 3 - h.val)))
      = (subV s).view.read (Elt F) (acc m (h.val + 1) c) := by
  have hp : ∀ (v : Vec F S1x1x256x1024 .f32) (w : Vec F S256x1024 .f32),
      k0_pay1 v w = addf (shapeCast S256x1024 v shapeCasts_S1x1x256x1024_S256x1024) w :=
    fun v w => by
      show shapeCast S256x1024 (addf (shapeCast S256x1024 v shapeCasts_S1x1x256x1024_S256x1024) w) _ = _
      exact shapeCast_self _ _
  rw [hp]
  funext x
  have hx := congrFun hf x
  show FloatOps.addf ((slotV h s).view.read (Elt F) f x) _ = FloatOps.addf ((subV s).view.read (Elt F) (acc m h.val (zl c)) x) _
  rw [hx]; rfl

end Cert.KernelIdeal.AllReduce

end
-- ==== Proof.Steps.lean ====
/-
The steps every device's run is made of: a transfer sent, a wait at its sender, a wait at its receiver, a local copy,
an addition. Each is stated over what a device holds of the protocol before step `n` of `acts`, so that the parts of the
kernel are sequences of these lemmas.
-/
module

public import proofs.«01_k».proof.Proof.Base

@[expose] public section

/-! # One step of the exchange: a send, a wait at the sender, a wait at the receiver. -/

set_option maxRecDepth 20000

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The body has no loop that needs a variant. -/
abbrev 𝒱₀ : Variants := Variants.none

/-- A program's weakest precondition on device `c`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## What everyone knows -/

/-- A cell's invariant, under some name, and that its first round is reached. -/
def Rec (g : GSem nD τ sig) : sProp 𝕄 := iprop((∃ κ, cellInv ER (Rd m) κ g) ∗ reached ER g 0)
instance (g : GSem nD τ sig) : BI.Persistent (Rec m g) := by unfold Rec; infer_instance

/-- The records of all the cells of the protocol, and the levels. -/
def recs : sProp 𝕄 :=
  iprop((bigSep Finset.univ fun cp : Dev nD × (Tr × Bool) => Rec m (endCell cp.1 cp.2))
    ∗ (bigSep Finset.univ fun c : Dev nD => Rec m (barCell c)) ∗ (levAts L lv : sProp 𝕄))
instance : BI.Persistent (recs m) := by unfold recs; infer_instance

/-- Ownership over a set gives that of one of its members. -/
theorem bigSep_at {I : Type} [DecidableEq I] {s : Finset I} {i : I} (hi : i ∈ s) (Φ : I → sProp 𝕄) :
    bigSep s Φ ⊢ Φ i := BI.bigSep_elim hi

/-- The records give that of a transfer's cell. -/
theorem recs_end (c : Dev nD) (p : Tr × Bool) : recs m ⊢ Rec m (endCell c p) := by
  unfold recs
  iintro ⟨H, -⟩
  iapply (bigSep_at (Finset.mem_univ (c, p)) fun cp : Dev nD × (Tr × Bool) => Rec m (endCell cp.1 cp.2)); iexact H
/-- The records give that of a barrier cell. -/
theorem recs_bar (c : Dev nD) : recs m ⊢ Rec m (barCell c) := by
  unfold recs
  iintro ⟨-, H, -⟩
  iapply (bigSep_at (Finset.mem_univ c) fun c : Dev nD => Rec m (barCell c)); iexact H
/-- The records give the levels. -/
theorem recs_lev : recs m ⊢ (levAts L lv : sProp 𝕄) := by unfold recs; iintro ⟨-, -, H⟩; iexact H
/-- A device may wait on a cell whose level is below those of the transfers that it is still to send. -/
theorem recs_may (c : Dev nD) (sm : SemLoc sig) (D : Finset Tr) (h : ∀ t ∈ D, lv ((c : Thread nD τ), sm) () < 2 + t.pos) :
    recs m ⊢ MayWait (c : Thread nD τ) sm () (debt c D) := (recs_lev (F := F) m).trans (mayWait c sm D h)

/-! ## What a device holds of the protocol -/

/-- For a transfer not yet sent: the tokens of its two duties, and the memory it will write. -/
def Due (c : Dev nD) (t : Tr) : sProp 𝕄 :=
  iprop(dutyTok ER (sCell c t) 0 0 ∗ dutyTok ER (rCell (t.peer c) t) 0 0 ∗ Land (t.peer c) t)
/-- For a transfer not yet waited for at the receiver: its position there, and its credit. -/
def Exp (c : Dev nD) (t : Tr) : sProp 𝕄 :=
  iprop(atPos ER (rCell c t) 0 ∅ 0 ∗ cred (tallyAt (rCell c t) () (N t)))

/-- Device `c` before step `n`. -/
def Gh (c : Dev nD) (n : ℕ) : sProp 𝕄 :=
  iprop(recs m ∗ (∃ W, owes (c : Thread nD τ) (debt c (dS n)) W)
    ∗ bigSep (dS n) (Due c) ∗ (bigSep (wS n) fun t => atPos ER (sCell c t) 0 ∅ 0)
    ∗ (bigSep (wS n \ dS n) fun t => cred (tallyAt (sCell c t) () (N t)))
    ∗ bigSep (rS n) (Exp c)
    ∗ (bigSep (wS n)ᶜ fun t => semVal (sCell c t) 0) ∗ (bigSep (rS n)ᶜ fun t => semVal (rCell c t) 0))

/-- Ownership over a set with one more member is that member's and the rest. -/
theorem bigSep_ins {I : Type} [DecidableEq I] {s : Finset I} {i : I} (hi : i ∉ s) (Φ : I → sProp 𝕄) :
    bigSep (insert i s) Φ = iprop(Φ i ∗ bigSep s Φ) := BI.bigSep_insert hi

/-! ## The three steps -/

section Core

variable {α : Type}

/-- Sending transfer `t` at step `n`: the source goes with it. -/
theorem snd_core {n : ℕ} {t : Tr} (hn : acts[n]? = some (.snd t)) (c p : Dev nD) (hp : p = t.peer c)
    {sp sp' : Space} {s : Shape} {src : Memref sig .tc sp s .f32} {dst : Memref sig .tc sp' s .f32}
    {hsc : (dst : Memref sig (Dev.tc p : Thread nD τ).2.kind sp' s .f32).view.ref.isScScratch = false}
    {sS sR : DmaSem sig} {hsrc : src.view.WordExact} {hdst : dst.view.WordExact}
    {hsem : DmaTarget.Typed sp (.dma sR) (.remote (Dev.tc p : Thread nD τ) dst (.dma sS) hsc)}
    (hsS : sS = endSem (t, false)) (hsR : sR = endSem (t, true)) (hN : dst.view.dmaCredit = N t)
    {q : PosShare TreeShare} {fs : Buf (Elt F) (src.view.loc (c : Thread nD τ))}
    (hS : SPay m c t = (src.view.loc (c : Thread nD τ) ↦[src.view.set]{q} fs : sProp 𝕄))
    (hL : (Land (t.peer c) t : sProp 𝕄) ⊢ iprop(∃ fd, dst.view.loc (t.peer c : Thread nD τ) ↦[dst.view.set]{fullShare} fd))
    (hR : ∀ fd, (dst.view.loc (t.peer c : Thread nD τ) ↦[dst.view.set]{fullShare}
        (dst.view.write (Elt F) fd (src.view.read (Elt F) fs) Finset.univ) : sProp 𝕄) ⊢ RPay m (t.peer c) t)
    {Q : α → sProp 𝕄} {k : PUnit → Prog (TpuEff nD τ sig (Elt F) Λ₀ .tc) α} :
    iprop(Gh m c n ∗ SPay m c t)
      ⊢ iprop((Gh m c (n + 1) -∗ WP (F := F) (α := α) c (k ⟨⟩) Q)
          -∗ WP (F := F) (α := α) c (.op (.enqueueDma src (.remote (Dev.tc p : Thread nD τ) dst (.dma sS) hsc) (.dma sR) hsrc hdst hsem) k) Q) := by
  subst hp hsS hsR
  obtain ⟨hd, hd', hw, hr⟩ := snd_at hn
  have hlive : t ∈ wS (n + 1) := hw ▸ snd_live hn
  have hx : wS (n + 1) \ dS (n + 1) = insert t (wS n \ dS n) := by
    rw [hd, hw]; ext t'
    simp only [Finset.mem_sdiff, Finset.mem_insert, not_or]
    by_cases h : t' = t
    · subst h; exact ⟨fun _ => .inl rfl, fun _ => ⟨hlive, hd'⟩⟩
    · exact ⟨fun h' => .inr ⟨h'.1, h, h'.2⟩, fun h' => by rcases h' with h' | h'; exacts [absurd h' h, ⟨h'.1, h'.2.2⟩]⟩
  have hx' : t ∉ wS n \ dS n := fun h => (Finset.mem_sdiff.mp h).2 (hd ▸ Finset.mem_insert_self _ _)
  have e1 : bigSep (dS n) (Due c) = iprop(Due c t ∗ bigSep (dS (n + 1)) (Due c) : sProp 𝕄) := by rw [hd]; exact bigSep_ins hd' _
  have e2 : (bigSep (wS (n + 1) \ dS (n + 1)) fun t => cred (tallyAt (sCell c t) () (N t)))
      = iprop(cred (tallyAt (sCell c t) () (N t)) ∗ (bigSep (wS n \ dS n) fun t => cred (tallyAt (sCell c t) () (N t))) : sProp 𝕄) := by
    rw [hx]; exact bigSep_ins hx' _
  have hd₁ : (0 : Fin 4) ∈ (Rd m).duties (sCell c t) 0 := by rw [duties_end]; exact Finset.mem_singleton_self _
  have hd₂ : (0 : Fin 4) ∈ (Rd m).duties (rCell (t.peer c) t) 0 := by rw [duties_end]; exact Finset.mem_singleton_self _
  have hO : debt c (dS n) = debt c (dS (n + 1)) + tallyAt (rCell (t.peer c) t) () (N t) := by rw [hd]; exact debt_insert c hd'
  have hpay₁ : (src.view.loc (c : Thread nD τ) ↦[src.view.set]{q} fs : sProp 𝕄) ⊢ (Rd m).payload (sCell c t) 0 0 := by
    rw [payload_s, hS]
  have hpay₂ : ∀ fd, (dst.view.loc (t.peer c : Thread nD τ) ↦[dst.view.set]{fullShare}
        (dst.view.write (Elt F) fd (src.view.read (Elt F) fs) Finset.univ) : sProp 𝕄) ⊢ (Rd m).payload (rCell (t.peer c) t) 0 0 := by
    intro fd; rw [payload_r]; exact hR fd
  unfold Gh
  rw [e1, e2, ← hw, ← hr]
  unfold Due
  iintro ⟨⟨#HR, ⟨%W, HO⟩, ⟨⟨HtS, HtR, HL⟩, HD⟩, Hw, Hc, He, Hv, Hv'⟩, HS⟩ Hk
  ihave #H1 := (recs_end (F := F) m c (t, false)) $$ HR
  ihave #H2 := (recs_end (F := F) m (t.peer c) (t, true)) $$ HR
  unfold Rec
  icases H1 with ⟨⟨%κ₁, #HI1⟩, #Hr1⟩
  icases H2 with ⟨⟨%κ₂, #HI2⟩, #Hr2⟩
  ihave HL' := hL $$ HL
  icases HL' with ⟨%fd, HL'⟩
  ihave HS' := (Entails.of_eq hS) $$ HS
  iapply (Rounds.wp_send_pointsTo 𝒱₀ ER (Rd m) (c : Thread nD τ) none (κ₁ := κ₁) (κ₂ := κ₂)
    (r₁ := 0) (r₂ := 0) (d₁ := 0) (d₂ := 0) (fd := fd) (sS := .dma (endSem (t, false))) (sem := .dma (endSem (t, true)))
    (O₀ := debt c (dS n))
    hd₁ hd₂ () () (N t) hN (amount_end m c (t, false) 0) (amount_end m (t.peer c) (t, true) 0) (debt c (dS (n + 1)))
    hO (W := W) hpay₁ (hpay₂ fd)) $$ [HS' HL' HO HtS HtR]
  · isplitr; · iexact HI1
    isplitr; · iexact HI2
    isplitl [HS']; · iexact HS'
    isplitl [HL']; · iexact HL'
    isplitl [HO]; · iexact HO
    isplitl [HtS]; · iexact HtS
    isplitr; · iexact Hr1
    isplitl [HtR]; · iexact HtR
    iexact Hr2
  iintro ⟨Hc', HO⟩
  iapply Hk
  isplitr; · iexact HR
  isplitl [HO]; · iexists W; iexact HO
  isplitl [HD]; · iexact HD
  isplitl [Hw]; · iexact Hw
  isplitl [Hc Hc']
  · isplitl [Hc']; · iexact Hc'
    iexact Hc
  isplitl [He]; · iexact He
  isplitl [Hv]; · iexact Hv
  iexact Hv'

/-- Waiting at step `n` until transfer `t` has left: its source is back. -/
theorem ws_core {n : ℕ} {t : Tr} (hn : acts[n]? = some (.ws t)) (c : Dev nD)
    {sp sp' : Space} {s : Shape} {src : Memref sig .tc sp s .f32} {dst : Memref sig .tc sp' s .f32}
    {q : DmaSem sig} {hsrc : src.view.WordExact} {hdst : dst.view.WordExact}
    (hq : q = endSem (t, false)) (hN : dst.view.dmaCredit = N t)
    {Q : α → sProp 𝕄} {k : PUnit → Prog (TpuEff nD τ sig (Elt F) Λ₀ .tc) α} :
    Gh m c n ⊢ iprop(((Gh m c (n + 1) ∗ SPay m c t) -∗ WP (F := F) (α := α) c (k ⟨⟩) Q)
        -∗ WP (F := F) (α := α) c (.op (.waitDma2 q src dst hsrc hdst) k) Q) := by
  subst hq
  obtain ⟨hw, hw', hd, hr⟩ := ws_at hn
  have hx : wS n \ dS n = insert t (wS (n + 1) \ dS (n + 1)) := by
    rw [hw, ← hd]; exact Finset.insert_sdiff_of_notMem _ (ws_sent hn)
  have hx' : t ∉ wS (n + 1) \ dS (n + 1) := fun h => hw' (Finset.mem_sdiff.mp h).1
  have hc : (wS (n + 1))ᶜ = insert t (wS n)ᶜ := by
    rw [hw]; ext t'; simp only [Finset.mem_compl, Finset.mem_insert, not_or]
    by_cases h : t' = t
    · subst h; exact ⟨fun _ => .inl rfl, fun _ => hw'⟩
    · exact ⟨fun h' => .inr ⟨h, h'⟩, fun h' => by rcases h' with h' | h'; exacts [absurd h' h, h'.2]⟩
  have hc' : t ∉ (wS n)ᶜ := fun h => Finset.mem_compl.mp h (hw ▸ Finset.mem_insert_self _ _)
  have e1 : (bigSep (wS n) fun t => atPos ER (sCell c t) 0 ∅ 0)
      = iprop(atPos ER (sCell c t) 0 ∅ 0 ∗ (bigSep (wS (n + 1)) fun t => atPos ER (sCell c t) 0 ∅ 0) : sProp 𝕄) := by
    rw [hw]; exact bigSep_ins hw' _
  have e2 : (bigSep (wS n \ dS n) fun t => cred (tallyAt (sCell c t) () (N t)))
      = iprop(cred (tallyAt (sCell c t) () (N t)) ∗ (bigSep (wS (n + 1) \ dS (n + 1)) fun t => cred (tallyAt (sCell c t) () (N t))) : sProp 𝕄) := by
    rw [hx]; exact bigSep_ins hx' _
  have e3 : (bigSep (wS (n + 1))ᶜ fun t => semVal (sCell c t) 0)
      = iprop(semVal (sCell c t) 0 ∗ (bigSep (wS n)ᶜ fun t => semVal (sCell c t) 0) : sProp 𝕄) := by
    rw [hc]; exact bigSep_ins hc' _
  have hexp : 0 + dst.view.dmaCredit = (Rd m).expect (sCell c t) 0 := by
    rw [Nat.zero_add, hN]; exact (expect_end m c (t, false)).symm
  have hlev : ∀ t' ∈ dS n, lv (sCell c t) () < 2 + t'.pos := fun t' _ => by rw [lv_s]; omega
  unfold Gh
  rw [e1, e2, e3, ← hd, ← hr]
  iintro ⟨#HR, ⟨%W, HO⟩, HD, ⟨Hat, Hw⟩, ⟨Hc, Hcs⟩, He, Hv, Hv'⟩ Hk
  ihave #H1 := (recs_end (F := F) m c (t, false)) $$ HR
  unfold Rec
  icases H1 with ⟨⟨%κ₁, #HI1⟩, #Hr1⟩
  iapply (Rounds.wp_wait_rest_token 𝒱₀ ER (Rd m) (c : Thread nD τ) none (κ := κ₁)
      (wpE_waitDma2_eq 𝒱₀ (c : Thread nD τ) none Set.univ) (Set.mem_univ _) () (O := debt c (dS n)) (W := W) (R := 0) (m := 0) (T := ∅)
      hexp) $$ [Hc HO Hat]
  · isplitr; · iexact HI1
    isplitl [Hc]; · rw [hN]; iexact Hc
    isplitl [HO]; · iexact HO
    isplitr
    · iapply (recs_may (F := F) m c (.dma (endSem (t, false))) (dS n) hlev); iexact HR
    iexact Hat
  iintro ⟨HO, Hat, -, Hpay⟩
  ihave HS := (Entails.of_eq ((rest_end m c (t, false)).trans (show endPay m c (some (t, false)) = SPay m c t from rfl))) $$ Hpay
  imod (Rounds.cell_close ER (Rd m) (Set.mem_univ κ₁) (fun h => h) (R := 0 + 1) (duties_later m (sCell c t))) $$ [Hat] with Hz
  · isplitr; · iexact HI1
    iexact Hat
  iapply Hk
  isplitr [HS]
  · isplitr; · iexact HR
    isplitl [HO]; · iexists _; iexact HO
    isplitl [HD]; · iexact HD
    isplitl [Hw]; · iexact Hw
    isplitl [Hcs]; · iexact Hcs
    isplitl [He]; · iexact He
    isplitl [Hz Hv]
    · isplitl [Hz]; · iexact Hz
      iexact Hv
    iexact Hv'
  · iexact HS

/-- Waiting at step `n` until transfer `t` has arrived: what it brought is held. -/
theorem wr_core {n : ℕ} {t : Tr} (hn : acts[n]? = some (.wr t)) (c : Dev nD)
    {sp sp' : Space} {s : Shape} {src : Memref sig .tc sp s .f32} {dst : Memref sig .tc sp' s .f32}
    {q : DmaSem sig} {hsrc : src.view.WordExact} {hdst : dst.view.WordExact}
    (hq : q = endSem (t, true)) (hN : dst.view.dmaCredit = N t)
    {Q : α → sProp 𝕄} {k : PUnit → Prog (TpuEff nD τ sig (Elt F) Λ₀ .tc) α} :
    Gh m c n ⊢ iprop(((Gh m c (n + 1) ∗ RPay m c t) -∗ WP (F := F) (α := α) c (k ⟨⟩) Q)
        -∗ WP (F := F) (α := α) c (.op (.waitDma2 q src dst hsrc hdst) k) Q) := by
  subst hq
  obtain ⟨hr, hr', hd, hw⟩ := wr_at hn
  have hc : (rS (n + 1))ᶜ = insert t (rS n)ᶜ := by
    rw [hr]; ext t'; simp only [Finset.mem_compl, Finset.mem_insert, not_or]
    by_cases h : t' = t
    · subst h; exact ⟨fun _ => .inl rfl, fun _ => hr'⟩
    · exact ⟨fun h' => .inr ⟨h, h'⟩, fun h' => by rcases h' with h' | h'; exacts [absurd h' h, h'.2]⟩
  have hc' : t ∉ (rS n)ᶜ := fun h => Finset.mem_compl.mp h (hr ▸ Finset.mem_insert_self _ _)
  have e1 : bigSep (rS n) (Exp c) = iprop(Exp c t ∗ bigSep (rS (n + 1)) (Exp c) : sProp 𝕄) := by
    rw [hr]; exact bigSep_ins hr' _
  have e3 : (bigSep (rS (n + 1))ᶜ fun t => semVal (rCell c t) 0)
      = iprop(semVal (rCell c t) 0 ∗ (bigSep (rS n)ᶜ fun t => semVal (rCell c t) 0) : sProp 𝕄) := by
    rw [hc]; exact bigSep_ins hc' _
  have hbelow := wr_below hn
  have hexp : 0 + dst.view.dmaCredit = (Rd m).expect (rCell c t) 0 := by
    rw [Nat.zero_add, hN]; exact (expect_end m c (t, true)).symm
  have hlev : ∀ t' ∈ dS n, lv (rCell c t) () < 2 + t'.pos := fun t' h => by rw [lv_r]; exact Nat.add_lt_add_left (hbelow t' h) 2
  unfold Gh
  rw [e1, e3, ← hd, ← hw]
  iintro ⟨#HR, ⟨%W, HO⟩, HD, Hw, Hcs, ⟨He, Hes⟩, Hv, Hv'⟩ Hk
  unfold Exp
  icases He with ⟨Hat, Hc⟩
  ihave #H1 := (recs_end (F := F) m c (t, true)) $$ HR
  unfold Rec
  icases H1 with ⟨⟨%κ₁, #HI1⟩, #Hr1⟩
  iapply (Rounds.wp_wait_rest_token 𝒱₀ ER (Rd m) (c : Thread nD τ) none (κ := κ₁)
      (wpE_waitDma2_eq 𝒱₀ (c : Thread nD τ) none Set.univ) (Set.mem_univ _) () (O := debt c (dS n)) (W := W) (R := 0) (m := 0) (T := ∅)
      hexp) $$ [Hc HO Hat]
  · isplitr; · iexact HI1
    isplitl [Hc]; · rw [hN]; iexact Hc
    isplitl [HO]; · iexact HO
    isplitr
    · iapply (recs_may (F := F) m c (.dma (endSem (t, true))) (dS n) hlev); iexact HR
    iexact Hat
  iintro ⟨HO, Hat, -, Hpay⟩
  ihave HS := (Entails.of_eq ((rest_end m c (t, true)).trans (show endPay m c (some (t, true)) = RPay m c t from rfl))) $$ Hpay
  imod (Rounds.cell_close ER (Rd m) (Set.mem_univ κ₁) (fun h => h) (R := 0 + 1) (duties_later m (rCell c t))) $$ [Hat] with Hz
  · isplitr; · iexact HI1
    iexact Hat
  iapply Hk
  isplitr [HS]
  · isplitr; · iexact HR
    isplitl [HO]; · iexists _; iexact HO
    isplitl [HD]; · iexact HD
    isplitl [Hw]; · iexact Hw
    isplitl [Hcs]; · iexact Hcs
    isplitl [Hes]; · iexact Hes
    isplitl [Hv]; · iexact Hv
    isplitl [Hz]; · iexact Hz
    iexact Hv'
  · iexact HS

end Core

end Cert.KernelIdeal.AllReduce

end
-- ==== Proof.Mem.lean ====
/-
How the buffers fall into the pieces the transfers move, and back: the accumulator into sub-blocks and halves, the
slots of the reduction, the blocks of the result, and the shares in which one block is sent several ways.
-/
module

public import proofs.«01_k».proof.Proof.Steps

@[expose] public section

/-! # The pieces of the buffers as sets of rows, and how a buffer is cut into them. -/

set_option maxRecDepth 20000

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

/-! ## Which rows a piece has -/

/-- A block of the result has its 512 rows. -/
theorem mem_out (b : Fin 32) (i : S16384x1024.Idx) :
    i ∈ (outV b).view.set ↔ 512 * b.val ≤ (i 0).val ∧ (i 0).val < 512 * b.val + 512 := by
  show i ∈ (((View.whole main_v1).slice (Rect.unit (s := S16384x1024) ![512 * b.val, 0] S512x1024.size (out_inb b))).set) ↔ _
  rw [View.set_slice_whole, Rect.mem_set_unit]
  exact ⟨fun h => h 0, fun h a => by
    fin_cases a
    · exact h
    · exact ⟨Nat.zero_le _, (i 1).isLt⟩⟩
/-- A half of the accumulator has its 512 rows. -/
theorem mem_half (b : Fin 2) (i : S1024x1024.Idx) :
    i ∈ (halfV b).view.set ↔ 512 * b.val ≤ (i 0).val ∧ (i 0).val < 512 * b.val + 512 := by
  show i ∈ (((View.whole cc0_scratch1).slice (Rect.unit (s := S1024x1024) ![512 * b.val, 0] S512x1024.size (half_inb b))).set) ↔ _
  rw [View.set_slice_whole, Rect.mem_set_unit]
  exact ⟨fun h => h 0, fun h a => by
    fin_cases a
    · exact h
    · exact ⟨Nat.zero_le _, (i 1).isLt⟩⟩
/-- A sub-block of the accumulator has its 256 rows. -/
theorem mem_sub (s : Fin 4) (i : S1024x1024.Idx) :
    i ∈ (subV s).view.set ↔ 256 * s.val ≤ (i 0).val ∧ (i 0).val < 256 * s.val + 256 := by
  show i ∈ (((View.whole cc0_scratch1).slice (Rect.unit (s := S1024x1024) ![256 * s.val, 0] S256x1024.size (sub_inb s))).set) ↔ _
  rw [View.set_slice_whole, Rect.mem_set_unit]
  exact ⟨fun h => h 0, fun h a => by
    fin_cases a
    · exact h
    · exact ⟨Nat.zero_le _, (i 1).isLt⟩⟩
/-- A landing slot's entries, as a rectangle of the array of the slots. -/
theorem set_slot (h : Fin 3) (s : Fin 4) : (slotV h s).view.set
    = (Rect.unit (s := S3x4x256x1024) ![h.val, s.val, 0, 0] S1x1x256x1024.size (slot_inb h s)).set := by
  show ((((View.whole cc0_scratch0).slice (Rect.unit (s := S3x4x256x1024) ![h.val, s.val, 0, 0] S1x1x256x1024.size (slot_inb h s))).reshape _ _).set) = _
  rw [View.set_reshape, View.set_slice_whole]
/-- A landing slot has the entries of its hop and its sub-block. -/
theorem mem_slot (h : Fin 3) (s : Fin 4) (i : S3x4x256x1024.Idx) :
    i ∈ (slotV h s).view.set ↔ (i 0).val = h.val ∧ (i 1).val = s.val := by
  rw [set_slot, Rect.mem_set_unit]
  constructor
  · intro H
    have h0 : h.val ≤ (i 0).val ∧ (i 0).val < h.val + 1 := H 0
    have h1 : s.val ≤ (i 1).val ∧ (i 1).val < s.val + 1 := H 1
    omega
  · intro ⟨h0, h1⟩ a
    fin_cases a
    · show h.val ≤ (i 0).val ∧ (i 0).val < h.val + 1; omega
    · show s.val ≤ (i 1).val ∧ (i 1).val < s.val + 1; omega
    · exact ⟨Nat.zero_le _, by show (i 2).val < 0 + 256; have h : (i 2).val < 256 := (i 2).isLt; omega⟩
    · exact ⟨Nat.zero_le _, by show (i 3).val < 0 + 1024; have h : (i 3).val < 1024 := (i 3).isLt; omega⟩

/-! ## The accumulator -/

/-- The accumulator, at a share, holding `f`. -/
def accAt (q : PosShare TreeShare) (c : Dev nD) (f : S1024x1024.Idx → Elt F .f32) : sProp 𝕄 :=
  (c : Thread nD τ).loc cc0_scratch1 ↦[Finset.univ]{q} f

/-- The two halves are the whole accumulator. -/
theorem halves_univ : (Finset.univ : Finset S1024x1024.Idx) = (halfV 0).view.set ∪ (halfV 1).view.set := by
  ext i
  rw [Finset.mem_union, mem_half, mem_half]
  have h : (i 0).val < 1024 := (i 0).isLt
  constructor
  · intro _; show (512 * 0 ≤ _ ∧ _ < 512 * 0 + 512) ∨ (512 * 1 ≤ _ ∧ _ < 512 * 1 + 512); omega
  · intro _; exact Finset.mem_univ _
/-- The two halves have no row in common. -/
theorem halves_disj : Disjoint (halfV 0).view.set (halfV 1).view.set := by
  refine Finset.disjoint_left.mpr fun i h h' => ?_
  rw [mem_half] at h h'
  have h1 : (i 0).val < 512 * 0 + 512 := h.2
  have h2 : 512 * 1 ≤ (i 0).val := h'.1
  omega

/-- The accumulator is its two halves, -/
theorem acc_halves (q : PosShare TreeShare) (c : Dev nD) (f : S1024x1024.Idx → Elt F .f32) :
    (accAt q c f : sProp 𝕄) ⊣⊢ iprop(halfAt q c 0 f ∗ halfAt q c 1 f) := by
  unfold accAt halfAt
  rw [show (Finset.univ : Finset (Idx ((c : Thread nD τ).loc cc0_scratch1))) = _ from halves_univ]
  exact pointsTo_union halves_disj

/-- and a half two sub-blocks. -/
theorem half_subs (c : Dev nD) (i : Fin 2) (s s' : Fin 4) (hs : s.val = 2 * i.val) (hs' : s'.val = 2 * i.val + 1)
    (f : S1024x1024.Idx → Elt F .f32) :
    (halfAt fullShare c i f : sProp 𝕄) ⊣⊢ iprop(subAt c s f ∗ subAt c s' f) := by
  have e : (halfV i).view.set = (subV s).view.set ∪ (subV s').view.set := by
    ext j; rw [Finset.mem_union, mem_half, mem_sub, mem_sub, hs, hs']; omega
  have d : Disjoint (subV s).view.set (subV s').view.set := by
    refine Finset.disjoint_left.mpr fun j h h' => ?_
    rw [mem_sub, hs] at h; rw [mem_sub, hs'] at h'; omega
  unfold halfAt subAt
  rw [e]
  exact pointsTo_union d

/-! ## Shares -/

/-- A share of some memory is its left part and its right part. -/
theorem share_two (ℓ : Loc nD τ sig) (S : Finset (Idx ℓ)) (q : PosShare TreeShare) (f : Buf (Elt F) ℓ) :
    (ℓ ↦[S]{q} f : sProp 𝕄) ⊣⊢ iprop((ℓ ↦[S]{q.left} f) ∗ ℓ ↦[S]{q.right} f) :=
  pointsTo_share (PosShare.mem_left_op_right q)

/-- Four shares of one block, three of them to send it three ways. -/
theorem out_shares (c : Dev nD) (b : Fin 32) (f : S16384x1024.Idx → Elt F .f32) :
    (outAt fullShare c b f : sProp 𝕄) ⊣⊢ iprop((outAt fullShare.left.left c b f ∗ outAt fullShare.left.right c b f)
      ∗ outAt fullShare.right.left c b f ∗ outAt fullShare.right.right c b f) :=
  (share_two _ _ _ _).trans (sep_congr (share_two _ _ _ _) (share_two _ _ _ _))
/-- A half of the accumulator, as four shares of it. -/
theorem half_shares (c : Dev nD) (b : Fin 2) (f : S1024x1024.Idx → Elt F .f32) :
    (halfAt fullShare c b f : sProp 𝕄) ⊣⊢ iprop((halfAt fullShare.left.left c b f ∗ halfAt fullShare.left.right c b f)
      ∗ halfAt fullShare.right.left c b f ∗ halfAt fullShare.right.right c b f) :=
  (share_two _ _ _ _).trans (sep_congr (share_two _ _ _ _) (share_two _ _ _ _))
/-- A block of the result, as three shares of it. -/
theorem out_shares2 (c : Dev nD) (b : Fin 32) (f : S16384x1024.Idx → Elt F .f32) :
    (outAt fullShare c b f : sProp 𝕄) ⊣⊢ iprop((outAt fullShare.left.left c b f ∗ outAt fullShare.left.right c b f)
      ∗ outAt fullShare.right c b f) :=
  (share_two _ _ _ _).trans (sep_congr (share_two _ _ _ _) .rfl)

/-! ## What stays of a block that came -/

/-- What a device keeps of the block transfer `t` brought when what it sends on has been set aside. -/
def Left (c : Dev nD) : Tr → sProp 𝕄
  | .z _ _ => iprop(emp)
  | .ag r i => outAt (if r = 2 then fullShare.right else fullShare.right.right) c ((Tr.ag r i).dst c) (Out m)
  | .xy r i l => if i = l then outAt fullShare c ((Tr.xy r i l).dst c) (Out m) else iprop(emp)
  | .p2 j l => outAt fullShare c ((Tr.p2 j l).dst c) (Out m)

/-- The block a transfer brought is what is sent on out of it and what stays. -/
theorem RPay_split (c : Dev nD) (t : Tr) (ht : t.isZ = false) :
    (RPay m c t : sProp 𝕄) ⊣⊢ iprop(Left m c t ∗ bigSep t.fwd (SPay m c)) := by
  rw [RPay_out m c ht]
  have hs : ∀ t' ∈ t.fwd, SPay m c t' = outAt t'.share c (t.dst c) (Out m) := fun t' h' => by
    rw [SPay_out m c (fwd_not_first t t' h').2 (fwd_not_first t t' h').1, src_fwd c t t' h']
  rw [BI.bigSep_congr hs]
  have hx (r : Fin 4) (i : Fin 2) : bigSep {Tr.xy r i 0, Tr.xy r i 1} (fun t' => outAt t'.share c (t.dst c) (Out m))
      = iprop(outAt fullShare.left.left c (t.dst c) (Out m) ∗ outAt fullShare.left.right c (t.dst c) (Out m) : sProp 𝕄) := by
    rw [bigSep_ins (by simp), bigSep_singleton]; rfl
  have hg (r : Fin 3) (r' : Fin 4) (i : Fin 2) : bigSep {Tr.ag r i, Tr.xy r' i 0, Tr.xy r' i 1} (fun t' => outAt t'.share c (t.dst c) (Out m))
      = iprop(outAt fullShare.right.left c (t.dst c) (Out m) ∗ (outAt fullShare.left.left c (t.dst c) (Out m) ∗ outAt fullShare.left.right c (t.dst c) (Out m)) : sProp 𝕄) := by
    rw [bigSep_ins (by simp), hx]; rfl
  cases t with
  | z h s => cases ht
  | ag r i =>
    rcases (show r = 0 ∨ r = 1 ∨ r = 2 by omega) with rfl | rfl | rfl
    · show _ ⊣⊢ iprop(outAt fullShare.right.right c _ _ ∗ bigSep {Tr.ag 1 i, Tr.xy 1 i 0, Tr.xy 1 i 1} _)
      rw [hg]
      exact (out_shares c _ _).trans (sep_comm.trans ((sep_congr sep_comm .rfl).trans sep_assoc))
    · show _ ⊣⊢ iprop(outAt fullShare.right.right c _ _ ∗ bigSep {Tr.ag 2 i, Tr.xy 2 i 0, Tr.xy 2 i 1} _)
      rw [hg]
      exact (out_shares c _ _).trans (sep_comm.trans ((sep_congr sep_comm .rfl).trans sep_assoc))
    · show _ ⊣⊢ iprop(outAt fullShare.right c _ _ ∗ bigSep {Tr.xy 3 i 0, Tr.xy 3 i 1} _)
      rw [hx]
      exact (out_shares2 c _ _).trans sep_comm
  | xy r i l =>
    rcases (show (i = 0 ∧ l = 1 ∨ i = 1 ∧ l = 0) ∨ i = 0 ∧ l = 0 ∨ i = 1 ∧ l = 1 by omega) with
      (⟨rfl, rfl⟩ | ⟨rfl, rfl⟩) | ⟨rfl, rfl⟩ | ⟨rfl, rfl⟩
    · show _ ⊣⊢ iprop(emp ∗ bigSep {Tr.p2 r 0} _)
      rw [bigSep_singleton]; exact emp_sep.symm
    · show _ ⊣⊢ iprop(emp ∗ bigSep {Tr.p2 r 1} _)
      rw [bigSep_singleton]; exact emp_sep.symm
    · show _ ⊣⊢ iprop(outAt fullShare c _ _ ∗ bigSep ∅ _)
      rw [bigSep_empty]; exact sep_emp.symm
    · show _ ⊣⊢ iprop(outAt fullShare c _ _ ∗ bigSep ∅ _)
      rw [bigSep_empty]; exact sep_emp.symm
  | p2 j l =>
    show _ ⊣⊢ iprop(outAt fullShare c _ _ ∗ bigSep ∅ _)
    rw [bigSep_empty]; exact sep_emp.symm

end Cert.KernelIdeal.AllReduce

end
-- ==== Proof.Moves.lean ====
/-
The steps at the kernel's own memory: the three kinds of transfer it sends, the waits of the second phase, the loads
and the store of one addition, and the local copies.
-/
module

public import proofs.«01_k».proof.Proof.Mem

@[expose] public section

/-! # The steps as the kernel's operations: sends, waits and loads of the pieces that it names. -/

set_option maxRecDepth 20000

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

/-- What a transfer outside the reduction credits. -/
theorem N_out {t : Tr} (h : t.isZ = false) : N t = (halfV 0).view.dmaCredit := by unfold N; rw [h]; rfl
/-- What a transfer of the reduction credits. -/
theorem N_z (h : Fin 3) (s : Fin 4) : N (.z h s) = (subV 0).view.dmaCredit := rfl

/-- A first transfer carries a block that the device finishes itself, and is not of the reduction. -/
theorem first_src (c : Dev nD) {t : Tr} (h : t.first = true) : t.src c = own c t.half ∧ t.isZ = false := by
  have : ∀ c : Dev nD, ∀ t : Tr, t.first = true → t.src c = own c t.half ∧ t.isZ = false := by decide +kernel
  exact this c t h

/-- A transfer's credit is the same wherever the buffer it lands in. -/
theorem credit_out {o : Fin 2 → ℕ} {io : ∀ a, o a + S512x1024.size a ≤ S16384x1024.size a} {hu} :
    (oM.slice (Rect.unit (s := S16384x1024) o S512x1024.size io) hu).view.dmaCredit = (halfV 0).view.dmaCredit := by
  show sig.dmaCredit _ _ _ _ _ = sig.dmaCredit _ _ _ _ _
  rfl
/-- A piece of 512 rows of the accumulator credits what a half does, wherever it lies. -/
theorem credit_half {o : Fin 2 → ℕ} {io : ∀ a, o a + S512x1024.size a ≤ S1024x1024.size a} {hu} :
    (aM.slice (Rect.unit (s := S1024x1024) o S512x1024.size io) hu).view.dmaCredit = (halfV 0).view.dmaCredit := rfl
/-- A piece of 256 rows of the accumulator credits what a sub-block does, wherever it lies. -/
theorem credit_sub {o : Fin 2 → ℕ} {io : ∀ a, o a + S256x1024.size a ≤ S1024x1024.size a} {hu} :
    (aM.slice (Rect.unit (s := S1024x1024) o S256x1024.size io) hu).view.dmaCredit = (subV 0).view.dmaCredit := rfl
/-- A landing slot credits what a sub-block does. -/
theorem credit_slot {o : Fin 4 → ℕ} {io : ∀ a, o a + S1x1x256x1024.size a ≤ S3x4x256x1024.size a} {hu hq} :
    ((sM.slice (Rect.unit (s := S3x4x256x1024) o S1x1x256x1024.size io) hu).squeeze S256x1024 hq).view.dmaCredit = (subV 0).view.dmaCredit := by
  show sig.dmaCredit _ _ _ _ _ = sig.dmaCredit _ _ _ _ _
  rfl

/-- What a device holds before step `n` of the second phase: its part of the protocol, the sources of the transfers
    still to be sent and of those given back, and what stays of the blocks that came. -/
def Gm (c : Dev nD) (n : ℕ) : sProp 𝕄 :=
  iprop(Gh m c n ∗ bigSep (hS n) (SPay m c) ∗ bigSep (aS n) (Left m c))

/-- Ownership over two disjoint sets is ownership over each. -/
theorem bigSep_cup {I : Type} [DecidableEq I] {s t : Finset I} (h : Disjoint s t) (Φ : I → sProp 𝕄) :
    bigSep (s ∪ t) Φ = iprop(bigSep s Φ ∗ bigSep t Φ) := BI.bigSep_union h

section Moves

variable {α : Type} {n : ℕ} {t : Tr} (c : Dev nD)

/-! ## The pieces as the kernel names them -/

/-- 512 rows of the result that begin where block `b` does are block `b`. -/
theorem outV_eq {b : Fin 32} {o : Fin 2 → ℕ} {io : ∀ a, o a + S512x1024.size a ≤ S16384x1024.size a} {hu} (ho : o = ![512 * b.val, 0]) :
    oM.slice (Rect.unit (s := S16384x1024) o S512x1024.size io) hu = outV b := by subst ho; rfl

/-! ## Sends -/

/-- A block of the result sent on to a neighbour. -/
theorem snd_out (hn : acts[n]? = some (.snd t)) (h42 : 42 ≤ n) {p : Dev nD} (hp : p = t.peer c)
    {src dst : Memref sig .tc .hbm S512x1024 .f32} (ho : src = outV (t.src c)) (ho' : dst = outV (t.src c))
    {sS sR : DmaSem sig} {hsc : (dst : Memref sig (Dev.tc p : Thread nD τ).2.kind .hbm S512x1024 .f32).view.ref.isScScratch = false}
    {hsrc : src.view.WordExact} {hdst : dst.view.WordExact}
    {hsem : DmaTarget.Typed .hbm (.dma sR) (.remote (Dev.tc p : Thread nD τ) dst (.dma sS) hsc)}
    (hsS : sS = endSem (t, false)) (hsR : sR = endSem (t, true))
    {Q : α → sProp 𝕄} {k : PUnit → Prog (TpuEff nD τ sig (Elt F) Λ₀ .tc) α} :
    Gm m c n ⊢ iprop((Gm m c (n + 1) -∗ WP (F := F) (α := α) c (k ⟨⟩) Q)
      -∗ WP (F := F) (α := α) c (.op (.enqueueDma src (.remote (Dev.tc p : Thread nD τ) dst (.dma sS) hsc) (.dma sR) hsrc hdst hsem) k) Q) := by
  subst ho ho'
  obtain ⟨hh, hh', ha, hf, hz⟩ := hS_snd hn h42
  have e : bigSep (hS n) (SPay m c) = iprop(SPay m c t ∗ bigSep (hS (n + 1)) (SPay m c) : sProp 𝕄) := by rw [hh]; exact bigSep_ins hh' _
  have hL : (Land (t.peer c) t : sProp 𝕄) ⊢ iprop(∃ fd, (outV (t.src c)).view.loc (t.peer c : Thread nD τ) ↦[(outV (t.src c)).view.set]{fullShare} fd) := by
    rw [Land_out (t.peer c) hz]; exact .rfl
  have hR : ∀ fd, ((outV (t.src c)).view.loc (t.peer c : Thread nD τ) ↦[(outV (t.src c)).view.set]{fullShare}
        ((outV (t.src c)).view.write (Elt F) fd ((outV (t.src c)).view.read (Elt F) (Out m)) Finset.univ) : sProp 𝕄) ⊢ RPay m (t.peer c) t := fun fd => by
    rw [RPay_out m (t.peer c) hz]
    exact Entails.of_eq (outAt_write m (t.peer c) (t.src c) fd _ rfl)
  have hN : (outV (t.src c)).view.dmaCredit = N t := credit_out.trans (N_out hz).symm
  unfold Gm
  rw [e, ha]
  iintro ⟨HG, ⟨Ht, HH⟩, HA⟩ Hk
  iapply (snd_core m hn c p hp hsS hsR hN (SPay_out m c hz hf) hL hR) $$ [HG Ht]
  · isplitl [HG]; · iexact HG
    iexact Ht
  iintro HG
  iapply Hk
  isplitl [HG]; · iexact HG
  isplitl [HH]; · iexact HH
  iexact HA

/-- A half of the finished accumulator sent into a neighbour's result. -/
theorem snd_first (hn : acts[n]? = some (.snd t)) (hf : t.first = true) {p : Dev nD} (hp : p = t.peer c)
    {src : Memref sig .tc .vmem S512x1024 .f32} {dst : Memref sig .tc .hbm S512x1024 .f32} (ho : src = halfV t.half) (ho' : dst = outV (t.src c))
    {sS sR : DmaSem sig} {hsc : (dst : Memref sig (Dev.tc p : Thread nD τ).2.kind .hbm S512x1024 .f32).view.ref.isScScratch = false}
    {hsrc : src.view.WordExact} {hdst : dst.view.WordExact}
    {hsem : DmaTarget.Typed .vmem (.dma sR) (.remote (Dev.tc p : Thread nD τ) dst (.dma sS) hsc)}
    (hsS : sS = endSem (t, false)) (hsR : sR = endSem (t, true))
    {Q : α → sProp 𝕄} {k : PUnit → Prog (TpuEff nD τ sig (Elt F) Λ₀ .tc) α} :
    iprop(Gh m c n ∗ halfAt t.share c t.half (acc m 3 c)) ⊢ iprop((Gh m c (n + 1) -∗ WP (F := F) (α := α) c (k ⟨⟩) Q)
      -∗ WP (F := F) (α := α) c (.op (.enqueueDma src (.remote (Dev.tc p : Thread nD τ) dst (.dma sS) hsc) (.dma sR) hsrc hdst hsem) k) Q) := by
  subst ho ho'
  obtain ⟨hs, hz⟩ := first_src c hf
  rw [← SPay_half m c hf]
  have hL : (Land (t.peer c) t : sProp 𝕄) ⊢ iprop(∃ fd, (outV (t.src c)).view.loc (t.peer c : Thread nD τ) ↦[(outV (t.src c)).view.set]{fullShare} fd) := by
    rw [Land_out (t.peer c) hz]; exact .rfl
  have hR : ∀ fd, ((outV (t.src c)).view.loc (t.peer c : Thread nD τ) ↦[(outV (t.src c)).view.set]{fullShare}
        ((outV (t.src c)).view.write (Elt F) fd ((halfV t.half).view.read (Elt F) (acc m 3 c)) Finset.univ) : sProp 𝕄) ⊢ RPay m (t.peer c) t := fun fd => by
    rw [RPay_out m (t.peer c) hz]
    exact Entails.of_eq (outAt_write m (t.peer c) (t.src c) fd _ (by rw [hs]; exact (read_own m c t.half).symm))
  have hN : (outV (t.src c)).view.dmaCredit = N t := credit_out.trans (N_out hz).symm
  exact snd_core m hn c p hp hsS hsR hN (SPay_half m c hf) hL hR

/-- A sub-block of the partial sum sent to the next device along `z`. -/
theorem snd_z {h : Fin 3} {s : Fin 4} (hn : acts[n]? = some (.snd (.z h s))) {p : Dev nD} (hp : p = zr c)
    {src : Memref sig .tc .vmem S256x1024 .f32} {dst : Memref sig .tc .vmem S256x1024 .f32} (ho : src = subV s) (ho' : dst = slotV h s)
    {sS sR : DmaSem sig} {hsc : (dst : Memref sig (Dev.tc p : Thread nD τ).2.kind .vmem S256x1024 .f32).view.ref.isScScratch = false}
    {hsrc : src.view.WordExact} {hdst : dst.view.WordExact}
    {hsem : DmaTarget.Typed .vmem (.dma sR) (.remote (Dev.tc p : Thread nD τ) dst (.dma sS) hsc)}
    (hsS : sS = endSem (.z h s, false)) (hsR : sR = endSem (.z h s, true))
    {Q : α → sProp 𝕄} {k : PUnit → Prog (TpuEff nD τ sig (Elt F) Λ₀ .tc) α} :
    iprop(Gh m c n ∗ subAt c s (acc m h.val c)) ⊢ iprop((Gh m c (n + 1) -∗ WP (F := F) (α := α) c (k ⟨⟩) Q)
      -∗ WP (F := F) (α := α) c (.op (.enqueueDma src (.remote (Dev.tc p : Thread nD τ) dst (.dma sS) hsc) (.dma sR) hsrc hdst hsem) k) Q) := by
  subst ho ho'
  have hS : SPay m c (.z h s) = ((subV s).view.loc (c : Thread nD τ) ↦[(subV s).view.set]{fullShare} (acc m h.val c) : sProp 𝕄) := rfl
  have hL : (Land (zr c) (.z h s) : sProp 𝕄) ⊢ iprop(∃ fd, (slotV h s).view.loc (zr c : Thread nD τ) ↦[(slotV h s).view.set]{fullShare} fd) := .rfl
  have hR : ∀ fd, ((slotV h s).view.loc (zr c : Thread nD τ) ↦[(slotV h s).view.set]{fullShare}
        ((slotV h s).view.write (Elt F) fd ((subV s).view.read (Elt F) (acc m h.val c)) Finset.univ) : sProp 𝕄) ⊢ RPay m (zr c) (.z h s) := (fun fd => by
      show _ ⊢ iprop(∃ f, ⌜(slotV h s).view.read (Elt F) f = (subV s).view.read (Elt F) (acc m h.val (zl (zr c)))⌝ ∗ slotAt (zr c) h s f)
      unfold slotAt
      iintro H
      iexists ((slotV h s).view.write (Elt F) fd ((subV s).view.read (Elt F) (acc m h.val c)) Finset.univ)
      isplitr
      · ipureintro; rw [zl_zr]; exact View.read_write_univ _ _
      iexact H)
  have hN : (slotV h s).view.dmaCredit = N (.z h s) := credit_slot.trans (N_z h s).symm
  exact snd_core m hn c p hp hsS hsR hN hS hL hR

/-! ## The waits of the second phase -/

/-- A wait until a transfer outside the reduction has left, from step 42 on. -/
theorem ws_out (hn : acts[n]? = some (.ws t)) (h42 : 42 ≤ n)
    {sp sp' : Space} {s : Shape} {src : Memref sig .tc sp s .f32} {dst : Memref sig .tc sp' s .f32}
    {q : DmaSem sig} {hsrc : src.view.WordExact} {hdst : dst.view.WordExact}
    (hq : q = endSem (t, false)) (hN : dst.view.dmaCredit = (halfV 0).view.dmaCredit)
    {Q : α → sProp 𝕄} {k : PUnit → Prog (TpuEff nD τ sig (Elt F) Λ₀ .tc) α} :
    Gm m c n ⊢ iprop((Gm m c (n + 1) -∗ WP (F := F) (α := α) c (k ⟨⟩) Q)
      -∗ WP (F := F) (α := α) c (.op (.waitDma2 q src dst hsrc hdst) k) Q) := by
  obtain ⟨hh, hh', ha, hz⟩ := hS_ws hn h42
  have e : bigSep (hS (n + 1)) (SPay m c) = iprop(SPay m c t ∗ bigSep (hS n) (SPay m c) : sProp 𝕄) := by rw [hh]; exact bigSep_ins hh' _
  unfold Gm
  rw [e, ← ha]
  iintro ⟨HG, HH, HA⟩ Hk
  iapply (ws_core m hn c hq (hN.trans (N_out hz).symm)) $$ HG
  iintro ⟨HG, Ht⟩
  iapply Hk
  isplitl [HG]; · iexact HG
  isplitl [Ht HH]
  · isplitl [Ht]; · iexact Ht
    iexact HH
  iexact HA

/-- A wait until a transfer outside the reduction has arrived, from step 42 on. -/
theorem wr_out (hn : acts[n]? = some (.wr t)) (h42 : 42 ≤ n)
    {sp sp' : Space} {s : Shape} {src : Memref sig .tc sp s .f32} {dst : Memref sig .tc sp' s .f32}
    {q : DmaSem sig} {hsrc : src.view.WordExact} {hdst : dst.view.WordExact}
    (hq : q = endSem (t, true)) (hN : dst.view.dmaCredit = (halfV 0).view.dmaCredit)
    {Q : α → sProp 𝕄} {k : PUnit → Prog (TpuEff nD τ sig (Elt F) Λ₀ .tc) α} :
    Gm m c n ⊢ iprop((Gm m c (n + 1) -∗ WP (F := F) (α := α) c (k ⟨⟩) Q)
      -∗ WP (F := F) (α := α) c (.op (.waitDma2 q src dst hsrc hdst) k) Q) := by
  obtain ⟨hh, hh', ha, ha', hz⟩ := hS_wr hn h42
  have e : bigSep (hS (n + 1)) (SPay m c) = iprop(bigSep t.fwd (SPay m c) ∗ bigSep (hS n) (SPay m c) : sProp 𝕄) := by rw [hh]; exact bigSep_cup hh' _
  have e' : bigSep (aS (n + 1)) (Left m c) = iprop(Left m c t ∗ bigSep (aS n) (Left m c) : sProp 𝕄) := by rw [ha]; exact bigSep_ins ha' _
  unfold Gm
  rw [e, e']
  iintro ⟨HG, HH, HA⟩ Hk
  iapply (wr_core m hn c hq (hN.trans (N_out hz).symm)) $$ HG
  iintro ⟨HG, Ht⟩
  ihave Ht' := (RPay_split m c t hz).1 $$ Ht
  icases Ht' with ⟨Hl, Hf⟩
  iapply Hk
  isplitl [HG]; · iexact HG
  isplitl [Hf HH]
  · isplitl [Hf]; · iexact Hf
    iexact HH
  isplitl [Hl]; · iexact Hl
  iexact HA

/-! ## One addition -/

/-- The buffer of the local chunk, holding `f`. -/
def yAt (f : S1024x1024.Idx → Elt F .f32) : sProp 𝕄 := yM.view.loc (c : Thread nD τ) ↦[yM.view.set]{fullShare} f

/-- A load of a landing slot. -/
theorem ld_slot {h : Fin 3} {s : Fin 4} {f : S3x4x256x1024.Idx → Elt F .f32}
    {o : Fin 4 → ℕ} {io : ∀ a, o a + S1x1x256x1024.size a ≤ S3x4x256x1024.size a} (ho : o = ![h.val, s.val, 0, 0]) {hl}
    {Q : α → sProp 𝕄} {k : Vec F S1x1x256x1024 .f32 → Prog (TpuEff nD τ sig (Elt F) Λ₀ .tc) α} :
    slotAt c h s f ⊢ iprop((slotAt c h s f -∗ WP (F := F) (α := α) c
          (k ((sM.access (Rect.unit (s := S3x4x256x1024) ![h.val, s.val, 0, 0] S1x1x256x1024.size (slot_inb h s))).read (Elt F) f)) Q)
      -∗ WP (F := F) (α := α) c (.op (.load sM (Rect.unit (s := S3x4x256x1024) o S1x1x256x1024.size io).toLoadRect hl) k) Q) := by
  subst ho
  have hS : (sM.access (Rect.unit (s := S3x4x256x1024) ![h.val, s.val, 0, 0] S1x1x256x1024.size (slot_inb h s))).set ⊆ (slotV h s).view.set := by
    rw [set_slot]; exact (View.set_slice_whole _ _).subset
  unfold slotAt
  exact wp_load_rect 𝒱₀ (c : Thread nD τ) none Set.univ hS
/-- The local chunk, as the load of a sub-block of it names it. -/
theorem yAt_eq {s : Fin 4} {f : S1024x1024.Idx → Elt F .f32} :
    (yAt c f : sProp 𝕄) = ((yM.access (Rect.unit (s := S1024x1024) ![256 * s.val, 0] S256x1024.size (sub_inb s))).loc (c : Thread nD τ) ↦[yM.view.set]{fullShare} f) := by
  unfold yAt
  rfl
/-- A load of a sub-block of the local chunk. -/
theorem ld_y {s : Fin 4} {f : S1024x1024.Idx → Elt F .f32}
    {o : Fin 2 → ℕ} {io : ∀ a, o a + S256x1024.size a ≤ S1024x1024.size a} (ho : o = ![256 * s.val, 0]) {hl}
    {Q : α → sProp 𝕄} {k : Vec F S256x1024 .f32 → Prog (TpuEff nD τ sig (Elt F) Λ₀ .tc) α} :
    yAt c f ⊢ iprop((yAt c f -∗ WP (F := F) (α := α) c
          (k ((yM.access (Rect.unit (s := S1024x1024) ![256 * s.val, 0] S256x1024.size (sub_inb s))).read (Elt F) f)) Q)
      -∗ WP (F := F) (α := α) c (.op (.load yM (Rect.unit (s := S1024x1024) o S256x1024.size io).toLoadRect hl) k) Q) := by
  subst ho
  rw [yAt_eq c (s := s)]
  exact wp_load_rect 𝒱₀ (c : Thread nD τ) none Set.univ (View.set_slice_subset _ _)
/-- A load of a sub-block of the accumulator. -/
theorem ld_a {s : Fin 4} {f : S1024x1024.Idx → Elt F .f32}
    {o : Fin 2 → ℕ} {io : ∀ a, o a + S256x1024.size a ≤ S1024x1024.size a} (ho : o = ![256 * s.val, 0]) {hl}
    {Q : α → sProp 𝕄} {k : Vec F S256x1024 .f32 → Prog (TpuEff nD τ sig (Elt F) Λ₀ .tc) α} :
    subAt c s f ⊢ iprop((subAt c s f -∗ WP (F := F) (α := α) c
          (k ((aM.access (Rect.unit (s := S1024x1024) ![256 * s.val, 0] S256x1024.size (sub_inb s))).read (Elt F) f)) Q)
      -∗ WP (F := F) (α := α) c (.op (.load aM (Rect.unit (s := S1024x1024) o S256x1024.size io).toLoadRect hl) k) Q) := by
  subst ho
  have hS : (aM.access (Rect.unit (s := S1024x1024) ![256 * s.val, 0] S256x1024.size (sub_inb s))).set ⊆ (subV s).view.set := Finset.Subset.refl _
  unfold subAt
  exact wp_load_rect 𝒱₀ (c : Thread nD τ) none Set.univ hS

/-- The loads of one addition: what came, the local chunk, and the old sub-block, which is not used. -/
theorem add_loads {h : Fin 3} {s : Fin 4} {f0 : S1024x1024.Idx → Elt F .f32}
    {o₁ : Fin 4 → ℕ} {o₂ o₃ : Fin 2 → ℕ} {i₁ : ∀ a, o₁ a + S1x1x256x1024.size a ≤ S3x4x256x1024.size a}
    {i₂ : ∀ a, o₂ a + S256x1024.size a ≤ S1024x1024.size a} {i₃ : ∀ a, o₃ a + S256x1024.size a ≤ S1024x1024.size a}
    (h₁ : o₁ = ![h.val, s.val, 0, 0]) (h₂ : o₂ = ![256 * s.val, 0]) (h₃ : o₃ = ![256 * s.val, 0]) {l₁ l₂ l₃}
    {Q : α → sProp 𝕄} {k : Vec F S1x1x256x1024 .f32 → Vec F S256x1024 .f32 → Vec F S256x1024 .f32 → Prog (TpuEff nD τ sig (Elt F) Λ₀ .tc) α} :
    iprop(RPay m c (.z h s) ∗ subAt c s f0 ∗ yAt c (xch m c (c.val % 4 + 3 - h.val))) ⊢
      iprop((∀ v w u, ⌜k0_pay1 v w = (subV s).view.read (Elt F) (acc m (h.val + 1) c)⌝
          -∗ (Land c (.z h s) ∗ subAt c s f0 ∗ yAt c (xch m c (c.val % 4 + 3 - h.val))) -∗ WP (F := F) (α := α) c (k v w u) Q)
        -∗ WP (F := F) (α := α) c (.op (.load sM (Rect.unit (s := S3x4x256x1024) o₁ S1x1x256x1024.size i₁).toLoadRect l₁) fun v =>
          .op (.load yM (Rect.unit (s := S1024x1024) o₂ S256x1024.size i₂).toLoadRect l₂) fun w =>
          .op (.load aM (Rect.unit (s := S1024x1024) o₃ S256x1024.size i₃).toLoadRect l₃) fun u => k v w u) Q) := by
  have e : RPay m c (.z h s) = iprop(∃ f, ⌜(slotV h s).view.read (Elt F) f = (subV s).view.read (Elt F) (acc m h.val (zl c))⌝ ∗ slotAt c h s f : sProp 𝕄) := rfl
  have e' : (Land c (.z h s) : sProp 𝕄) = iprop(∃ f, slotAt c h s f) := rfl
  rw [e, e']
  iintro ⟨⟨%f, %hf, Hs⟩, Ha, Hy⟩ Hk
  iapply (ld_slot c h₁) $$ Hs
  iintro Hs
  iapply (ld_y c h₂) $$ Hy
  iintro Hy
  iapply (ld_a c h₃) $$ Ha
  iintro Ha
  iapply Hk
  · ipureintro; exact pay_eq m c h s f hf
  isplitl [Hs]; · iexists f; iexact Hs
  isplitl [Ha]; · iexact Ha
  iexact Hy

/-- The store of one addition. -/
theorem add_store {s : Fin 4} {f0 g : S1024x1024.Idx → Elt F .f32} {w : Vec F S256x1024 .f32}
    (hw : w = (subV s).view.read (Elt F) g) {o : Fin 2 → ℕ} {io : ∀ a, o a + S256x1024.size a ≤ S1024x1024.size a} (ho : o = ![256 * s.val, 0]) {l₁ l₂}
    {Q : α → sProp 𝕄} {k : PUnit → Prog (TpuEff nD τ sig (Elt F) Λ₀ .tc) α} :
    subAt c s f0 ⊢ iprop((subAt c s g -∗ WP (F := F) (α := α) c (k ⟨⟩) Q)
      -∗ WP (F := F) (α := α) c (.op (.store aM (Rect.unit (s := S1024x1024) o S256x1024.size io) w Finset.univ l₁ l₂) k) Q) := by
  subst ho
  rw [← subAt_write c s f0 g w hw]
  unfold subAt
  exact wp_store 𝒱₀ (c : Thread nD τ) none Set.univ (m := aM) (Finset.Subset.refl _)

/-! ## The local copies -/

/-- A copy within the device, waited for at once, on a semaphore of its own. -/
theorem copy_core {sp sp' : Space} {s : Shape} {src : Memref sig .tc sp s .f32} {dst : Memref sig .tc sp' s .f32}
    {q q' : DmaSem sig} {hsrc hdst hsem hsrc' hdst'} {qn : DmaSem sig} (hq : q = qn) (hq' : q' = qn) (hqe : endOf qn = none) (hN : 0 < dst.view.dmaCredit)
    {qs : PosShare TreeShare} {fs : Buf (Elt F) (src.view.loc (c : Thread nD τ))} {fd : Buf (Elt F) (dst.view.loc (c : Thread nD τ))}
    {Q : α → sProp 𝕄} {k : PUnit → Prog (TpuEff nD τ sig (Elt F) Λ₀ .tc) α} :
    iprop(Gh m c n ∗ (src.view.loc (c : Thread nD τ) ↦[src.view.set]{qs} fs) ∗ (dst.view.loc (c : Thread nD τ) ↦[dst.view.set]{fullShare} fd)
        ∗ semVal ((c : Thread nD τ), SemLoc.dma qn) 0)
      ⊢ iprop(((Gh m c n ∗ (src.view.loc (c : Thread nD τ) ↦[src.view.set]{qs} fs)
            ∗ (dst.view.loc (c : Thread nD τ) ↦[dst.view.set]{fullShare} (dst.view.write (Elt F) fd (src.view.read (Elt F) fs) Finset.univ))
            ∗ semVal ((c : Thread nD τ), SemLoc.dma qn) 0) -∗ WP (F := F) (α := α) c (k ⟨⟩) Q)
        -∗ WP (F := F) (α := α) c (.op (.enqueueDma src (.here dst) (.dma q) hsrc hdst hsem) fun _ =>
          .op (.waitDma2 q' src dst hsrc' hdst') k) Q) := by
  subst hq hq'
  have hlev : ∀ t' ∈ dS n, lv ((c : Thread nD τ), SemLoc.dma q') () < 2 + t'.pos := fun t' _ => by
    have : lv ((c : Thread nD τ), SemLoc.dma q') () = 0 := by dsimp only [lv]; rw [hqe]
    rw [this]; omega
  unfold Gh
  iintro ⟨⟨#HR, ⟨%W, HO⟩, HG⟩, Hs, Hd, Hv⟩ Hk
  iapply (Transfers.wp_dmaLocal countersEmb 𝒱₀ (c : Thread nD τ) none () (dst.view.dmaCredit) rfl hN (Finset.Subset.refl _)) $$ [Hs Hd Hv]
  · isplitl [Hs]; · iexact Hs
    isplitl [Hd]; · iexact Hd
    iexact Hv
  iintro HF
  iapply (Transfers.wp_waitLocalO countersEmb 𝒱₀ (c : Thread nD τ) none () rfl (O := debt c (dS n)) (W := W)) $$ [HF HO]
  · isplitl [HF]; · iexact HF
    isplitl [HO]; · iexact HO
    iapply (recs_may (F := F) m c (.dma q') (dS n) hlev); iexact HR
  iintro ⟨⟨Hd, Hs⟩, Hv, HO⟩
  iapply Hk
  isplitl [HG HO]
  · isplitr; · iexact HR
    isplitl [HO]; · iexists _; iexact HO
    iexact HG
  isplitl [Hs]; · iexact Hs
  isplitl [Hd]; · iexact Hd
  iexact Hv

/-- The argument of device `c`. -/
def xAt : sProp 𝕄 := (c : Thread nD τ).loc main_arg0 ↦[Finset.univ]{fullShare} xOf m c

/-- 1024 rows of the argument that begin where chunk `k` does read as chunk `k`. -/
theorem read_x {o : Fin 2 → ℕ} {io : ∀ a, o a + S1024x1024.size a ≤ S16384x1024.size a} {hu} (k : ℕ)
    (ho : o = ![4096 * (c.val / 4) + 1024 * (k % 4), 0]) :
    (xM.slice (Rect.unit (s := S16384x1024) o S1024x1024.size io) hu).view.read (Elt F) (xOf m c) = xch m c k := by
  subst ho
  funext i
  rw [View.read_apply]
  show xOf m c _ = xOf m c (ix2 (rowIx c k (i 0)) (i 1))
  congr 1
  funext a; fin_cases a <;> apply Fin.ext
  · show 4096 * (c.val / 4) + 1024 * (k % 4) + 1 * (i 0).val = _; rw [Nat.one_mul]; rfl
  · show 0 + 1 * (i 1).val = _; rw [Nat.one_mul, Nat.zero_add]

/-- A chunk of the argument copied in. -/
theorem copy_x (kx : ℕ) {o : Fin 2 → ℕ} {io : ∀ a, o a + S1024x1024.size a ≤ S16384x1024.size a} {hu hu'}
    (ho : o = ![4096 * (c.val / 4) + 1024 * (kx % 4), 0])
    {dst : Memref sig .tc .vmem S1024x1024 .f32}
    {q q' : DmaSem sig} {hsrc hdst hsem hsrc' hdst'} {qn : DmaSem sig} (hq : q = qn) (hq' : q' = qn) (hqe : endOf qn = none) (hN : 0 < dst.view.dmaCredit)
    {fd : Buf (Elt F) (dst.view.loc (c : Thread nD τ))}
    {Q : α → sProp 𝕄} {k : PUnit → Prog (TpuEff nD τ sig (Elt F) Λ₀ .tc) α} :
    iprop(Gh m c n ∗ xAt m c ∗ (dst.view.loc (c : Thread nD τ) ↦[dst.view.set]{fullShare} fd) ∗ semVal ((c : Thread nD τ), SemLoc.dma qn) 0)
      ⊢ iprop(((Gh m c n ∗ xAt m c
            ∗ (dst.view.loc (c : Thread nD τ) ↦[dst.view.set]{fullShare} (dst.view.write (Elt F) fd (xch m c kx) Finset.univ))
            ∗ semVal ((c : Thread nD τ), SemLoc.dma qn) 0) -∗ WP (F := F) (α := α) c (k ⟨⟩) Q)
        -∗ WP (F := F) (α := α) c (.op (.enqueueDma (xM.slice (Rect.unit (s := S16384x1024) o S1024x1024.size io) hu) (.here dst) (.dma q) hsrc hdst hsem) fun _ =>
          .op (.waitDma2 q' (xM.slice (Rect.unit (s := S16384x1024) o S1024x1024.size io) hu') dst hsrc' hdst') k) Q) := by
  have hx := pointsTo_split_subset (Ix := Unit) (Name := ℕ) (U := UU) (Lvl := ℕ) (ℓ := (c : Thread nD τ).loc main_arg0) (q := fullShare) (f := xOf m c)
    (I := (xM.slice (Rect.unit (s := S16384x1024) o S1024x1024.size io) hu).view.set) (Finset.subset_univ _)
  rw [← read_x m c (io := io) (hu := hu) kx ho]
  unfold xAt
  iintro ⟨HG, Hx, Hd, Hv⟩ Hk
  ihave Hx' := hx.1 $$ Hx
  icases Hx' with ⟨Hs, Hr⟩
  iapply (copy_core m c hq hq' hqe hN (n := n) (qs := fullShare) (fs := xOf m c) (fd := fd)) $$ [HG Hs Hd Hv]
  · isplitl [HG]; · iexact HG
    isplitl [Hs]; · iexact Hs
    isplitl [Hd]; · iexact Hd
    iexact Hv
  iintro ⟨HG, Hs, Hd, Hv⟩
  iapply Hk
  isplitl [HG]; · iexact HG
  isplitl [Hs Hr]
  · iapply hx.2
    isplitl [Hs]; · iexact Hs
    iexact Hr
  isplitl [Hd]; · iexact Hd
  iexact Hv

end Moves

end Cert.KernelIdeal.AllReduce

end
-- ==== Proof.Parts2.lean ====
module

public import proofs.«01_k».proof.Proof.Moves

@[expose] public section

/-! # The second phase: the parts of the body that pass the finished chunks round. -/

set_option maxRecDepth 20000

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

/-- A part of the body at this kernel's buffers and semaphores. -/
abbrev args {β : Sort _} (f : (arg0 : Memref sig .tc .hbm S16384x1024 .f32) → (harg0 : arg0.IsWhole) → (arg1 : Memref sig .tc .hbm S16384x1024 .f32) → (harg1 : arg1.IsWhole) → (arg2 : Memref sig .tc .vmem S3x4x256x1024 .f32) → (harg2 : arg2.IsWhole) → (arg3 : Memref sig .tc .vmem S1024x1024 .f32) → (harg3 : arg3.IsWhole) → (arg4 : Memref sig .tc .vmem S1024x1024 .f32) → (harg4 : arg4.IsWhole) → (arg5 : DmaSems sig S12) → (arg6 : DmaSems sig S12) → (arg7 : DmaSems sig S6) → (arg8 : DmaSems sig S6) → (arg9 : DmaSems sig S16) → (arg10 : DmaSems sig S16) → (arg11 : DmaSems sig S8) → (arg12 : DmaSems sig S8) → (arg13 : DmaSems sig S2) → β) : β :=
  f xM (Memref.isWhole_whole _) oM (Memref.isWhole_whole _) sM (Memref.isWhole_whole _) aM (Memref.isWhole_whole _)
    yM (Memref.isWhole_whole _) cc0_scratch3 cc0_scratch4 cc0_scratch5 cc0_scratch6 cc0_scratch7 cc0_scratch8 cc0_scratch9
    cc0_scratch10 cc0_scratch11

/-- Where part `j` of the second exchange reads and writes. -/
theorem off4 (c : Dev nD) (t : Tr) (h : t.first = true) (w : BitVec 32) (hw : w = BitVec.ofNat 32 (512 * t.half.val)) :
    k0_off4 c w = ![512 * (t.src c).val, 0] := by
  have : ∀ (c : Dev nD) (i : Fin 2), k0_off4 c (BitVec.ofNat 32 (512 * i.val)) = ![512 * (own c i).val, 0] := by decide +kernel
  rw [(first_src c h).1, hw]; exact this c t.half

/-- A block forwarded in round `r + 1` is the one that came in round `r`. -/
theorem off6 (c : Dev nD) (r : Fin 3) (i : Fin 2) {t : Tr} (h : t ∈ (Tr.ag r i).fwd) {v w : BitVec 32}
    (hv : v = BitVec.ofNat 32 (r.val + 1)) (hw : w = BitVec.ofNat 32 (512 * i.val)) :
    k0_off6 c v w = ![512 * (t.src c).val, 0] := by
  have : ∀ (c : Dev nD) (r : Fin 3) (i : Fin 2),
      k0_off6 c (BitVec.ofNat 32 (r.val + 1)) (BitVec.ofNat 32 (512 * i.val)) = ![512 * ((Tr.ag r i).dst c).val, 0] := by
    decide +kernel
  rw [src_fwd c _ t h, hv, hw]; exact this c r i

/-- The diagonal quarter's first halves go on to the x peer. -/
theorem off7 (c : Dev nD) (j : Fin 4) {w : BitVec 32} (hw : w = BitVec.ofNat 32 j.val) :
    k0_off7 c w = ![512 * ((Tr.p2 j 0).src c).val, 0] := by
  subst hw; revert c j; decide +kernel

/-- The diagonal quarter's second halves go on to the y peer. -/
theorem off8 (c : Dev nD) (j : Fin 4) {w : BitVec 32} (hw : w = BitVec.ofNat 32 j.val) :
    k0_off8 c w = ![512 * ((Tr.p2 j 1).src c).val, 0] := by
  subst hw; revert c j; decide +kernel

/-- A step of a program, from a rule and the proof of what follows the step. -/
theorem step {A B W W' : sProp 𝕄} (h : A ⊢ iprop((B -∗ W) -∗ W')) (h' : B ⊢ W) : A ⊢ W' := by
  iintro HA
  iapply h $$ HA
  iintro HB
  iapply h' $$ HB

/-- The end of a program. -/
theorem fin (c : Dev nD) {α : Type} {A : sProp 𝕄} {Q : α → sProp 𝕄} {a : α} (h : A ⊢ Q a) :
    A ⊢ WP (F := F) (α := α) c (Prog.ret a) Q := by
  show _ ⊢ wp _ _ _ _ _
  rw [wp_ret]
  iintro HA
  imodintro
  iapply h $$ HA

/-- Steps 42 to 44. -/
theorem part25 (c : Dev nD) (v2 v5 v19 v87 v691 : BitVec 32) {Q} (h : ∀ r, Gm m c 45 ⊢ Q r) :
    Gm m c 42 ⊢ WP (F := F) c (args (k0_part25 (F := F)) c v2 v5 v19 v87 v691) Q := by
  simp only [args, k0_part25_eq_skeleton]
  unfold k0_part25_skel
  simp only [Prog.lift, Prog.bind_op, Prog.bind_ret, Prog.pure_eq_ret, Prog.bind_assoc]
  refine step (ws_out m c (t := .ag 0 0) rfl (by decide) rfl credit_half) ?_
  refine step (wr_out m c (t := .ag 0 0) rfl (by decide) rfl credit_out) ?_
  refine step (snd_out m c (t := .ag 1 0) rfl (by decide) ?_ (outV_eq (off6 c 0 0 (by decide) rfl rfl)) (outV_eq (off6 c 0 0 (by decide) rfl rfl)) rfl rfl) ?_
  · clear h; revert c; decide +kernel
  exact fin c (h _)

/-- Steps 45 to 47. -/
theorem part26 (c : Dev nD) (v2 v5 v8 v19 v88 v722 : BitVec 32) {Q} (h : ∀ r, Gm m c 48 ⊢ Q r) :
    Gm m c 45 ⊢ WP (F := F) c (args (k0_part26 (F := F)) c v2 v5 v8 v19 v88 v722) Q := by
  simp only [args, k0_part26_eq_skeleton]
  unfold k0_part26_skel
  simp only [Prog.lift, Prog.bind_op, Prog.bind_ret, Prog.pure_eq_ret, Prog.bind_assoc]
  refine step (snd_out m c (t := .xy 1 0 0) rfl (by decide) ?_ (outV_eq (off6 c 0 0 (by decide) rfl rfl)) (outV_eq (off6 c 0 0 (by decide) rfl rfl)) rfl rfl) ?_
  · clear h; revert c; decide +kernel
  refine step (snd_out m c (t := .xy 1 0 1) rfl (by decide) ?_ (outV_eq (off6 c 0 0 (by decide) rfl rfl)) (outV_eq (off6 c 0 0 (by decide) rfl rfl)) rfl rfl) ?_
  · clear h; revert c; decide +kernel
  refine step (ws_out m c (t := .ag 0 1) rfl (by decide) rfl credit_half) ?_
  exact fin c (h _)

/-- Steps 48 to 50. -/
theorem part27 (c : Dev nD) (v2 v5 v8 v19 v87 v88 v691 : BitVec 32) {Q} (h : ∀ r, Gm m c 51 ⊢ Q r) :
    Gm m c 48 ⊢ WP (F := F) c (args (k0_part27 (F := F)) c v2 v5 v8 v19 v87 v88 v691) Q := by
  simp only [args, k0_part27_eq_skeleton]
  unfold k0_part27_skel
  simp only [Prog.lift, Prog.bind_op, Prog.bind_ret, Prog.pure_eq_ret, Prog.bind_assoc]
  refine step (wr_out m c (t := .ag 0 1) rfl (by decide) rfl credit_out) ?_
  refine step (snd_out m c (t := .ag 1 1) rfl (by decide) ?_ (outV_eq (off6 c 0 1 (by decide) rfl rfl)) (outV_eq (off6 c 0 1 (by decide) rfl rfl)) rfl rfl) ?_
  · clear h; revert c; decide +kernel
  refine step (snd_out m c (t := .xy 1 1 0) rfl (by decide) ?_ (outV_eq (off6 c 0 1 (by decide) rfl rfl)) (outV_eq (off6 c 0 1 (by decide) rfl rfl)) rfl rfl) ?_
  · clear h; revert c; decide +kernel
  exact fin c (h _)

/-- Steps 51 to 52. -/
theorem part28 (c : Dev nD) (v5 v8 v87 : BitVec 32) {Q} (h : ∀ r, Gm m c 53 ⊢ Q r) :
    Gm m c 51 ⊢ WP (F := F) c (args (k0_part28 (F := F)) c v5 v8 v87) Q := by
  simp only [args, k0_part28_eq_skeleton]
  unfold k0_part28_skel
  simp only [Prog.lift, Prog.bind_op, Prog.bind_ret, Prog.pure_eq_ret, Prog.bind_assoc]
  refine step (snd_out m c (t := .xy 1 1 1) rfl (by decide) ?_ (outV_eq (off6 c 0 1 (by decide) rfl rfl)) (outV_eq (off6 c 0 1 (by decide) rfl rfl)) rfl rfl) ?_
  · clear h; revert c; decide +kernel
  refine step (wr_out m c (t := .xy 0 0 0) rfl (by decide) rfl credit_out) ?_
  exact fin c (h _)

/-- Steps 53 to 55. -/
theorem part29 (c : Dev nD) (v2 v8 v36 v39 v88 v805 v819 v820 : BitVec 32) {Q} (h : ∀ r, Gm m c 56 ⊢ Q r) :
    Gm m c 53 ⊢ WP (F := F) c (args (k0_part29 (F := F)) c v2 v8 v36 v39 v88 v805 v819 v820) Q := by
  simp only [args, k0_part29_eq_skeleton]
  unfold k0_part29_skel
  simp only [Prog.lift, Prog.bind_op, Prog.bind_ret, Prog.pure_eq_ret, Prog.bind_assoc]
  refine step (wr_out m c (t := .xy 0 1 0) rfl (by decide) rfl credit_out) ?_
  refine step (wr_out m c (t := .xy 0 0 1) rfl (by decide) rfl credit_out) ?_
  refine step (wr_out m c (t := .xy 0 1 1) rfl (by decide) rfl credit_out) ?_
  exact fin c (h _)

/-- Steps 56 to 57. -/
theorem part30 (c : Dev nD) (v2 v5 v8 v87 v88 v851 c0 : BitVec 32) {Q} (h : ∀ r, Gm m c 58 ⊢ Q r) :
    Gm m c 56 ⊢ WP (F := F) c (args (k0_part30 (F := F)) c v2 v5 v8 v87 v88 v851 c0) Q := by
  simp only [args, k0_part30_eq_skeleton]
  unfold k0_part30_skel
  simp only [Prog.lift, Prog.bind_op, Prog.bind_ret, Prog.pure_eq_ret, Prog.bind_assoc]
  refine step (snd_out m c (t := .p2 0 0) rfl (by decide) ?_ (outV_eq (off7 c 0 rfl)) (outV_eq (off7 c 0 rfl)) rfl rfl) ?_
  · clear h; revert c; decide +kernel
  refine step (snd_out m c (t := .p2 0 1) rfl (by decide) ?_ (outV_eq (off8 c 0 rfl)) (outV_eq (off8 c 0 rfl)) rfl rfl) ?_
  · clear h; revert c; decide +kernel
  exact fin c (h _)

/-- Steps 58 to 60. -/
theorem part31 (c : Dev nD) (v2 v5 v19 v40 v880 v881 : BitVec 32) (v882 v885 : BitVec 1) {Q} (h : ∀ r, Gm m c 61 ⊢ Q r) :
    Gm m c 58 ⊢ WP (F := F) c (args (k0_part31 (F := F)) c v2 v5 v19 v40 v880 v881   v882 v885) Q := by
  simp only [args, k0_part31_eq_skeleton]
  unfold k0_part31_skel
  simp only [Prog.lift, Prog.bind_op, Prog.bind_ret, Prog.pure_eq_ret, Prog.bind_assoc]
  refine step (ws_out m c (t := .ag 1 0) rfl (by decide) rfl credit_out) ?_
  refine step (wr_out m c (t := .ag 1 0) rfl (by decide) rfl credit_out) ?_
  refine step (snd_out m c (t := .ag 2 0) rfl (by decide) ?_ (outV_eq (off6 c 1 0 (by decide) rfl rfl)) (outV_eq (off6 c 1 0 (by decide) rfl rfl)) rfl rfl) ?_
  · clear h; revert c; decide +kernel
  exact fin c (h _)

/-- Steps 61 to 63. -/
theorem part32 (c : Dev nD) (v2 v5 v8 v87 v88 : BitVec 32) {Q} (h : ∀ r, Gm m c 64 ⊢ Q r) :
    Gm m c 61 ⊢ WP (F := F) c (args (k0_part32 (F := F)) c v2 v5 v8 v87 v88) Q := by
  simp only [args, k0_part32_eq_skeleton]
  unfold k0_part32_skel
  simp only [Prog.lift, Prog.bind_op, Prog.bind_ret, Prog.pure_eq_ret, Prog.bind_assoc]
  refine step (snd_out m c (t := .xy 2 0 0) rfl (by decide) ?_ (outV_eq (off6 c 1 0 (by decide) rfl rfl)) (outV_eq (off6 c 1 0 (by decide) rfl rfl)) rfl rfl) ?_
  · clear h; revert c; decide +kernel
  refine step (snd_out m c (t := .xy 2 0 1) rfl (by decide) ?_ (outV_eq (off6 c 1 0 (by decide) rfl rfl)) (outV_eq (off6 c 1 0 (by decide) rfl rfl)) rfl rfl) ?_
  · clear h; revert c; decide +kernel
  refine step (ws_out m c (t := .ag 1 1) rfl (by decide) rfl credit_out) ?_
  exact fin c (h _)

/-- Steps 64 to 66. -/
theorem part33 (c : Dev nD) (v2 v5 v8 v19 v87 v890 v949 c0 : BitVec 32) {Q} (h : ∀ r, Gm m c 67 ⊢ Q r) :
    Gm m c 64 ⊢ WP (F := F) c (args (k0_part33 (F := F)) c v2 v5 v8 v19 v87 v890 v949 c0) Q := by
  simp only [args, k0_part33_eq_skeleton]
  unfold k0_part33_skel
  simp only [Prog.lift, Prog.bind_op, Prog.bind_ret, Prog.pure_eq_ret, Prog.bind_assoc]
  refine step (wr_out m c (t := .ag 1 1) rfl (by decide) rfl credit_out) ?_
  refine step (snd_out m c (t := .ag 2 1) rfl (by decide) ?_ (outV_eq (off6 c 1 1 (by decide) rfl rfl)) (outV_eq (off6 c 1 1 (by decide) rfl rfl)) rfl rfl) ?_
  · clear h; revert c; decide +kernel
  refine step (snd_out m c (t := .xy 2 1 0) rfl (by decide) ?_ (outV_eq (off6 c 1 1 (by decide) rfl rfl)) (outV_eq (off6 c 1 1 (by decide) rfl rfl)) rfl rfl) ?_
  · clear h; revert c; decide +kernel
  exact fin c (h _)

/-- Steps 67 to 68. -/
theorem part34 (c : Dev nD) (v5 v8 v87 v88 v982 c0 : BitVec 32) {Q} (h : ∀ r, Gm m c 69 ⊢ Q r) :
    Gm m c 67 ⊢ WP (F := F) c (args (k0_part34 (F := F)) c v5 v8 v87 v88 v982 c0) Q := by
  simp only [args, k0_part34_eq_skeleton]
  unfold k0_part34_skel
  simp only [Prog.lift, Prog.bind_op, Prog.bind_ret, Prog.pure_eq_ret, Prog.bind_assoc]
  refine step (snd_out m c (t := .xy 2 1 1) rfl (by decide) ?_ (outV_eq (off6 c 1 1 (by decide) rfl rfl)) (outV_eq (off6 c 1 1 (by decide) rfl rfl)) rfl rfl) ?_
  · clear h; revert c; decide +kernel
  refine step (wr_out m c (t := .xy 1 0 0) rfl (by decide) rfl credit_out) ?_
  exact fin c (h _)

/-- Steps 69 to 71. -/
theorem part35 (c : Dev nD) (v2 v5 v8 v36 v39 v88 v1004 v1016 c0 : BitVec 32) {Q} (h : ∀ r, Gm m c 72 ⊢ Q r) :
    Gm m c 69 ⊢ WP (F := F) c (args (k0_part35 (F := F)) c v2 v5 v8 v36 v39 v88 v1004 v1016 c0) Q := by
  simp only [args, k0_part35_eq_skeleton]
  unfold k0_part35_skel
  simp only [Prog.lift, Prog.bind_op, Prog.bind_ret, Prog.pure_eq_ret, Prog.bind_assoc]
  refine step (wr_out m c (t := .xy 1 1 0) rfl (by decide) rfl credit_out) ?_
  refine step (wr_out m c (t := .xy 1 0 1) rfl (by decide) rfl credit_out) ?_
  refine step (wr_out m c (t := .xy 1 1 1) rfl (by decide) rfl credit_out) ?_
  exact fin c (h _)

/-- Steps 72 to 73. -/
theorem part36 (c : Dev nD) (v2 v5 v8 v87 v88 v1050 : BitVec 32) {Q} (h : ∀ r, Gm m c 74 ⊢ Q r) :
    Gm m c 72 ⊢ WP (F := F) c (args (k0_part36 (F := F)) c v2 v5 v8 v87 v88 v1050) Q := by
  simp only [args, k0_part36_eq_skeleton]
  unfold k0_part36_skel
  simp only [Prog.lift, Prog.bind_op, Prog.bind_ret, Prog.pure_eq_ret, Prog.bind_assoc]
  refine step (snd_out m c (t := .p2 1 0) rfl (by decide) ?_ (outV_eq (off7 c 1 rfl)) (outV_eq (off7 c 1 rfl)) rfl rfl) ?_
  · clear h; revert c; decide +kernel
  refine step (snd_out m c (t := .p2 1 1) rfl (by decide) ?_ (outV_eq (off8 c 1 rfl)) (outV_eq (off8 c 1 rfl)) rfl rfl) ?_
  · clear h; revert c; decide +kernel
  exact fin c (h _)

/-- Steps 74 to 76. -/
theorem part37 (c : Dev nD) (v2 v5 v8 v19 v40 v87 v1079 v1080 : BitVec 32) (v1081 v1082 v1083 : BitVec 1) {Q} (h : ∀ r, Gm m c 77 ⊢ Q r) :
    Gm m c 74 ⊢ WP (F := F) c (args (k0_part37 (F := F)) c v2 v5 v8 v19 v40 v87 v1079 v1080   v1081 v1082 v1083) Q := by
  simp only [args, k0_part37_eq_skeleton]
  unfold k0_part37_skel
  simp only [Prog.lift, Prog.bind_op, Prog.bind_ret, Prog.pure_eq_ret, Prog.bind_assoc]
  refine step (ws_out m c (t := .ag 2 0) rfl (by decide) rfl credit_out) ?_
  refine step (wr_out m c (t := .ag 2 0) rfl (by decide) rfl credit_out) ?_
  refine step (snd_out m c (t := .xy 3 0 0) rfl (by decide) ?_ (outV_eq (off6 c 2 0 (by decide) rfl rfl)) (outV_eq (off6 c 2 0 (by decide) rfl rfl)) rfl rfl) ?_
  · clear h; revert c; decide +kernel
  exact fin c (h _)

/-- Steps 77 to 79. -/
theorem part38 (c : Dev nD) (v2 v5 v8 v19 v87 v88 v1089 : BitVec 32) {Q} (h : ∀ r, Gm m c 80 ⊢ Q r) :
    Gm m c 77 ⊢ WP (F := F) c (args (k0_part38 (F := F)) c v2 v5 v8 v19 v87 v88 v1089) Q := by
  simp only [args, k0_part38_eq_skeleton]
  unfold k0_part38_skel
  simp only [Prog.lift, Prog.bind_op, Prog.bind_ret, Prog.pure_eq_ret, Prog.bind_assoc]
  refine step (snd_out m c (t := .xy 3 0 1) rfl (by decide) ?_ (outV_eq (off6 c 2 0 (by decide) rfl rfl)) (outV_eq (off6 c 2 0 (by decide) rfl rfl)) rfl rfl) ?_
  · clear h; revert c; decide +kernel
  refine step (ws_out m c (t := .ag 2 1) rfl (by decide) rfl credit_out) ?_
  refine step (wr_out m c (t := .ag 2 1) rfl (by decide) rfl credit_out) ?_
  exact fin c (h _)

/-- Steps 80 to 81. -/
theorem part39 (c : Dev nD) (v2 v8 v87 v88 v1147 : BitVec 32) {Q} (h : ∀ r, Gm m c 82 ⊢ Q r) :
    Gm m c 80 ⊢ WP (F := F) c (args (k0_part39 (F := F)) c v2 v8 v87 v88 v1147) Q := by
  simp only [args, k0_part39_eq_skeleton]
  unfold k0_part39_skel
  simp only [Prog.lift, Prog.bind_op, Prog.bind_ret, Prog.pure_eq_ret, Prog.bind_assoc]
  refine step (snd_out m c (t := .xy 3 1 0) rfl (by decide) ?_ (outV_eq (off6 c 2 1 (by decide) rfl rfl)) (outV_eq (off6 c 2 1 (by decide) rfl rfl)) rfl rfl) ?_
  · clear h; revert c; decide +kernel
  refine step (snd_out m c (t := .xy 3 1 1) rfl (by decide) ?_ (outV_eq (off6 c 2 1 (by decide) rfl rfl)) (outV_eq (off6 c 2 1 (by decide) rfl rfl)) rfl rfl) ?_
  · clear h; revert c; decide +kernel
  exact fin c (h _)

/-- Steps 82 to 84. -/
theorem part40 (c : Dev nD) (v2 v5 v8 v87 v88 v1181 c0 : BitVec 32) {Q} (h : ∀ r, Gm m c 85 ⊢ Q r) :
    Gm m c 82 ⊢ WP (F := F) c (args (k0_part40 (F := F)) c v2 v5 v8 v87 v88 v1181 c0) Q := by
  simp only [args, k0_part40_eq_skeleton]
  unfold k0_part40_skel
  simp only [Prog.lift, Prog.bind_op, Prog.bind_ret, Prog.pure_eq_ret, Prog.bind_assoc]
  refine step (wr_out m c (t := .xy 2 0 0) rfl (by decide) rfl credit_out) ?_
  refine step (wr_out m c (t := .xy 2 1 0) rfl (by decide) rfl credit_out) ?_
  refine step (wr_out m c (t := .xy 2 0 1) rfl (by decide) rfl credit_out) ?_
  exact fin c (h _)

/-- Steps 85 to 86. -/
theorem part41 (c : Dev nD) (v2 v5 v8 v36 v39 v87 v88 v1179 v1213 c0 : BitVec 32) {Q} (h : ∀ r, Gm m c 87 ⊢ Q r) :
    Gm m c 85 ⊢ WP (F := F) c (args (k0_part41 (F := F)) c v2 v5 v8 v36 v39 v87 v88 v1179 v1213 c0) Q := by
  simp only [args, k0_part41_eq_skeleton]
  unfold k0_part41_skel
  simp only [Prog.lift, Prog.bind_op, Prog.bind_ret, Prog.pure_eq_ret, Prog.bind_assoc]
  refine step (wr_out m c (t := .xy 2 1 1) rfl (by decide) rfl credit_out) ?_
  refine step (snd_out m c (t := .p2 2 0) rfl (by decide) ?_ (outV_eq (off7 c 2 rfl)) (outV_eq (off7 c 2 rfl)) rfl rfl) ?_
  · clear h; revert c; decide +kernel
  exact fin c (h _)

/-- Steps 87 to 88. -/
theorem part42 (c : Dev nD) (v5 v8 v87 : BitVec 32) {Q} (h : ∀ r, Gm m c 89 ⊢ Q r) :
    Gm m c 87 ⊢ WP (F := F) c (args (k0_part42 (F := F)) c v5 v8 v87) Q := by
  simp only [args, k0_part42_eq_skeleton]
  unfold k0_part42_skel
  simp only [Prog.lift, Prog.bind_op, Prog.bind_ret, Prog.pure_eq_ret, Prog.bind_assoc]
  refine step (snd_out m c (t := .p2 2 1) rfl (by decide) ?_ (outV_eq (off8 c 2 rfl)) (outV_eq (off8 c 2 rfl)) rfl rfl) ?_
  · clear h; revert c; decide +kernel
  refine step (wr_out m c (t := .xy 3 0 0) rfl (by decide) rfl credit_out) ?_
  exact fin c (h _)

/-- Steps 89 to 91. -/
theorem part43 (c : Dev nD) (v2 v5 v8 v36 v39 v87 v88 v1262 : BitVec 32) {Q} (h : ∀ r, Gm m c 92 ⊢ Q r) :
    Gm m c 89 ⊢ WP (F := F) c (args (k0_part43 (F := F)) c v2 v5 v8 v36 v39 v87 v88 v1262) Q := by
  simp only [args, k0_part43_eq_skeleton]
  unfold k0_part43_skel
  simp only [Prog.lift, Prog.bind_op, Prog.bind_ret, Prog.pure_eq_ret, Prog.bind_assoc]
  refine step (wr_out m c (t := .xy 3 1 0) rfl (by decide) rfl credit_out) ?_
  refine step (wr_out m c (t := .xy 3 0 1) rfl (by decide) rfl credit_out) ?_
  refine step (wr_out m c (t := .xy 3 1 1) rfl (by decide) rfl credit_out) ?_
  exact fin c (h _)

/-- Steps 92 to 95. -/
theorem part44 (c : Dev nD) (v2 v8 v88 v1313 : BitVec 32) {Q} (h : ∀ r, Gm m c 96 ⊢ Q r) :
    Gm m c 92 ⊢ WP (F := F) c (args (k0_part44 (F := F)) c v2 v8 v88 v1313) Q := by
  simp only [args, k0_part44_eq_skeleton]
  unfold k0_part44_skel
  simp only [Prog.lift, Prog.bind_op, Prog.bind_ret, Prog.pure_eq_ret, Prog.bind_assoc]
  refine step (snd_out m c (t := .p2 3 0) rfl (by decide) ?_ (outV_eq (off7 c 3 rfl)) (outV_eq (off7 c 3 rfl)) rfl rfl) ?_
  · clear h; revert c; decide +kernel
  refine step (snd_out m c (t := .p2 3 1) rfl (by decide) ?_ (outV_eq (off8 c 3 rfl)) (outV_eq (off8 c 3 rfl)) rfl rfl) ?_
  · clear h; revert c; decide +kernel
  refine step (ws_out m c (t := .xy 0 0 0) rfl (by decide) rfl credit_half) ?_
  refine step (ws_out m c (t := .xy 0 1 0) rfl (by decide) rfl credit_half) ?_
  exact fin c (h _)

/-- Steps 96 to 101. -/
theorem part45 (c : Dev nD) {Q} (h : ∀ r, Gm m c 102 ⊢ Q r) :
    Gm m c 96 ⊢ WP (F := F) c (args (k0_part45 (F := F)) c ) Q := by
  simp only [args, k0_part45_eq_skeleton]
  unfold k0_part45_skel
  simp only [Prog.lift, Prog.bind_op, Prog.bind_ret, Prog.pure_eq_ret, Prog.bind_assoc]
  refine step (ws_out m c (t := .xy 0 0 1) rfl (by decide) rfl credit_half) ?_
  refine step (ws_out m c (t := .xy 0 1 1) rfl (by decide) rfl credit_half) ?_
  refine step (ws_out m c (t := .xy 1 0 0) rfl (by decide) rfl credit_out) ?_
  refine step (ws_out m c (t := .xy 1 1 0) rfl (by decide) rfl credit_out) ?_
  refine step (ws_out m c (t := .xy 1 0 1) rfl (by decide) rfl credit_out) ?_
  refine step (ws_out m c (t := .xy 1 1 1) rfl (by decide) rfl credit_out) ?_
  exact fin c (h _)

/-- Steps 102 to 107. -/
theorem part46 (c : Dev nD) {Q} (h : ∀ r, Gm m c 108 ⊢ Q r) :
    Gm m c 102 ⊢ WP (F := F) c (args (k0_part46 (F := F)) c ) Q := by
  simp only [args, k0_part46_eq_skeleton]
  unfold k0_part46_skel
  simp only [Prog.lift, Prog.bind_op, Prog.bind_ret, Prog.pure_eq_ret, Prog.bind_assoc]
  refine step (ws_out m c (t := .xy 2 0 0) rfl (by decide) rfl credit_out) ?_
  refine step (ws_out m c (t := .xy 2 1 0) rfl (by decide) rfl credit_out) ?_
  refine step (ws_out m c (t := .xy 2 0 1) rfl (by decide) rfl credit_out) ?_
  refine step (ws_out m c (t := .xy 2 1 1) rfl (by decide) rfl credit_out) ?_
  refine step (ws_out m c (t := .xy 3 0 0) rfl (by decide) rfl credit_out) ?_
  refine step (ws_out m c (t := .xy 3 1 0) rfl (by decide) rfl credit_out) ?_
  exact fin c (h _)

/-- Steps 108 to 112. -/
theorem part47 (c : Dev nD) (v2 v5 v8 v87 : BitVec 32) {Q} (h : ∀ r, Gm m c 113 ⊢ Q r) :
    Gm m c 108 ⊢ WP (F := F) c (args (k0_part47 (F := F)) c v2 v5 v8 v87) Q := by
  simp only [args, k0_part47_eq_skeleton]
  unfold k0_part47_skel
  simp only [Prog.lift, Prog.bind_op, Prog.bind_ret, Prog.pure_eq_ret, Prog.bind_assoc]
  refine step (ws_out m c (t := .xy 3 0 1) rfl (by decide) rfl credit_out) ?_
  refine step (ws_out m c (t := .xy 3 1 1) rfl (by decide) rfl credit_out) ?_
  refine step (ws_out m c (t := .p2 0 0) rfl (by decide) rfl credit_out) ?_
  refine step (wr_out m c (t := .p2 0 0) rfl (by decide) rfl credit_out) ?_
  refine step (ws_out m c (t := .p2 0 1) rfl (by decide) rfl credit_out) ?_
  exact fin c (h _)

/-- Steps 113 to 116. -/
theorem part48 (c : Dev nD) (v2 v5 v8 v87 v88 v1416 : BitVec 32) {Q} (h : ∀ r, Gm m c 117 ⊢ Q r) :
    Gm m c 113 ⊢ WP (F := F) c (args (k0_part48 (F := F)) c v2 v5 v8 v87 v88 v1416) Q := by
  simp only [args, k0_part48_eq_skeleton]
  unfold k0_part48_skel
  simp only [Prog.lift, Prog.bind_op, Prog.bind_ret, Prog.pure_eq_ret, Prog.bind_assoc]
  refine step (wr_out m c (t := .p2 0 1) rfl (by decide) rfl credit_out) ?_
  refine step (ws_out m c (t := .p2 1 0) rfl (by decide) rfl credit_out) ?_
  refine step (wr_out m c (t := .p2 1 0) rfl (by decide) rfl credit_out) ?_
  refine step (ws_out m c (t := .p2 1 1) rfl (by decide) rfl credit_out) ?_
  exact fin c (h _)

/-- Steps 117 to 120. -/
theorem part49 (c : Dev nD) (v2 v5 v8 v87 v88 v1445 : BitVec 32) {Q} (h : ∀ r, Gm m c 121 ⊢ Q r) :
    Gm m c 117 ⊢ WP (F := F) c (args (k0_part49 (F := F)) c v2 v5 v8 v87 v88 v1445) Q := by
  simp only [args, k0_part49_eq_skeleton]
  unfold k0_part49_skel
  simp only [Prog.lift, Prog.bind_op, Prog.bind_ret, Prog.pure_eq_ret, Prog.bind_assoc]
  refine step (wr_out m c (t := .p2 1 1) rfl (by decide) rfl credit_out) ?_
  refine step (ws_out m c (t := .p2 2 0) rfl (by decide) rfl credit_out) ?_
  refine step (wr_out m c (t := .p2 2 0) rfl (by decide) rfl credit_out) ?_
  refine step (ws_out m c (t := .p2 2 1) rfl (by decide) rfl credit_out) ?_
  exact fin c (h _)

/-- Steps 121 to 124. -/
theorem part50 (c : Dev nD) (v2 v5 v8 v87 v88 v1473 v1474 : BitVec 32) {Q} (h : ∀ r, Gm m c 125 ⊢ Q r) :
    Gm m c 121 ⊢ WP (F := F) c (args (k0_part50 (F := F)) c v2 v5 v8 v87 v88 v1473 v1474) Q := by
  simp only [args, k0_part50_eq_skeleton]
  unfold k0_part50_skel
  simp only [Prog.lift, Prog.bind_op, Prog.bind_ret, Prog.pure_eq_ret, Prog.bind_assoc]
  refine step (wr_out m c (t := .p2 2 1) rfl (by decide) rfl credit_out) ?_
  refine step (ws_out m c (t := .p2 3 0) rfl (by decide) rfl credit_out) ?_
  refine step (wr_out m c (t := .p2 3 0) rfl (by decide) rfl credit_out) ?_
  refine step (ws_out m c (t := .p2 3 1) rfl (by decide) rfl credit_out) ?_
  exact fin c (h _)

end Cert.KernelIdeal.AllReduce

end
-- ==== Proof.Start.lean ====
module

public import proofs.«01_k».proof.Proof.Parts2

@[expose] public section

/-! # The start of the body: the barrier and the first copy. -/

set_option maxRecDepth 20000

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

/-! ## The barrier -/

/-- The three neighbours that send to a device. -/
theorem nbInv_of (c : Dev nD) : zl c = nbInv 0 c ∧ xp c = nbInv 1 c ∧ yp c = nbInv 2 c := ⟨rfl, rfl, rfl⟩

/-- What device `c` hands a neighbour with its signal is its own memory that the neighbour will write. -/
theorem barPay_to (c : Dev nD) (d : Fin 3) : (barPay (nbInv d c) d.castSucc : sProp 𝕄)
    = bigSep (Finset.univ.filter fun t : Tr => t.dir = d) fun t => Land c t := by
  unfold barPay
  have e : (Finset.univ.filter fun t : Tr => t.dir.val = d.castSucc.val) = Finset.univ.filter fun t : Tr => t.dir = d :=
    Finset.filter_congr fun t _ => ⟨fun h => Fin.ext h, fun h => by rw [h]; rfl⟩
  rw [e]
  refine BI.bigSep_congr fun t ht => ?_
  rw [show t.peer (nbInv d c) = c from by
    unfold Tr.peer; rw [(Finset.mem_filter.mp ht).2]; exact nb_nbInv d c]
/-- The signal to the next device along `z` hands it nothing. -/
theorem barPay_back (c : Dev nD) : (barPay (zr c) 3 : sProp 𝕄) = iprop(emp) := by
  unfold barPay
  rw [show (Finset.univ.filter fun t : Tr => t.dir.val = (3 : Fin 4).val) = ∅ from by decide, BI.bigSep_empty]; rfl

/-- The four neighbours' signals together bring the memory of all of a device's transfers. -/
theorem barPay_all (c : Dev nD) :
    (bigSep Finset.univ fun d : Fin 4 => (barPay c d : sProp 𝕄)) ⊢ bigSep Finset.univ fun t : Tr => Land (t.peer c) t := by
  have hb : (Finset.univ : Finset Tr) = Finset.univ.biUnion fun d : Fin 4 => Finset.univ.filter fun t : Tr => t.dir.val = d.val := by
    decide
  have hd : ∀ d ∈ (Finset.univ : Finset (Fin 4)), ∀ d' ∈ (Finset.univ : Finset (Fin 4)), d ≠ d' →
      Disjoint (Finset.univ.filter fun t : Tr => t.dir.val = d.val) (Finset.univ.filter fun t : Tr => t.dir.val = d'.val) := by
    intro d _ d' _ hdd
    refine Finset.disjoint_left.mpr fun t h h' => hdd (Fin.ext ?_)
    rw [← (Finset.mem_filter.mp h).2, ← (Finset.mem_filter.mp h').2]
  have e := BI.bigSep_biUnion_eq (Finset.univ : Finset (Fin 4)) (fun d => Finset.univ.filter fun t : Tr => t.dir.val = d.val)
    (fun t => (Land (t.peer c) t : sProp 𝕄)) hd
  rw [hb]
  exact Entails.of_eq e.symm

/-- A signal of the barrier. -/
theorem sig_core (c n p : Dev nD) (hp : p = n) (d : Fin 4) {O : CellTallies nD τ sig Unit} {α : Type} {Q : α → sProp 𝕄}
    {k : PUnit → Prog (TpuEff nD τ sig (Elt F) Λ₀ .tc) α} :
    iprop(recs m ∗ (∃ W, owes (c : Thread nD τ) (O + tallyAt (barCell n) () 1) W) ∗ dutyTok ER (barCell n) 0 d ∗ barPay n d)
      ⊢ iprop(((∃ W, owes (c : Thread nD τ) O W) -∗ WP (F := F) (α := α) c (k ⟨⟩) Q)
        -∗ WP (F := F) (α := α) c (.op (.semSignal ((p : Dev nD), .tc) barS (1#32).toInt) k) Q) := by
  subst hp
  iintro ⟨#HR, ⟨%W, HO⟩, Ht, HP⟩ Hk
  ihave #H1 := (recs_bar (F := F) m p) $$ HR
  unfold Rec
  icases H1 with ⟨⟨%κ, #HI⟩, #Hr⟩
  iapply (Rounds.wp_signal 𝒱₀ ER (Rd m) (c : Thread nD τ) none (dst := (p : Thread nD τ)) (κ := κ)
      (d := d) (by rw [duties_bar]; exact Finset.mem_univ _) ((amount_bar m p d).trans (by decide)) () O rfl) $$ [HO Ht HP]
  · isplitr; · iexact HI
    isplitl [HO]; · iexact HO
    isplitl [Ht]; · iexact Ht
    isplitl [HP]; · rw [payload_bar]; iexact HP
    iexact Hr
  iintro HO
  iapply Hk
  iexists W; iexact HO

/-- What device `c` holds of its transfers at the start, but for the memory its neighbours lend. -/
def G0 (c : Dev nD) : sProp 𝕄 :=
  iprop((bigSep Finset.univ fun t : Tr => iprop(dutyTok ER (sCell c t) 0 0 ∗ dutyTok ER (rCell (t.peer c) t) 0 0))
    ∗ (bigSep Finset.univ fun t : Tr => atPos ER (sCell c t) 0 ∅ 0) ∗ bigSep Finset.univ fun t : Tr => Exp c t)

/-- At the start every transfer is to be sent, and to be waited for at both ends. -/
theorem sets_0 : dS 0 = Finset.univ ∧ wS 0 = Finset.univ ∧ rS 0 = Finset.univ := by decide +kernel

/-- A device's share at the launch, with the memory that its neighbours lend, is what it holds before the first step. -/
theorem Gh_0 (c : Dev nD) :
    iprop(recs m ∗ (∃ W, owes (c : Thread nD τ) (debt c Finset.univ) W) ∗ G0 c ∗ bigSep Finset.univ fun t : Tr => Land (t.peer c) t)
      ⊢ Gh m c 0 := by
  have e : (bigSep Finset.univ (Due c) : sProp 𝕄) = iprop((bigSep Finset.univ fun t : Tr => iprop(dutyTok ER (sCell c t) 0 0 ∗ dutyTok ER (rCell (t.peer c) t) 0 0))
      ∗ bigSep Finset.univ fun t : Tr => Land (t.peer c) t) := by
    rw [← bigSep_sep']
    refine BI.bigSep_congr fun t _ => ?_
    unfold Due
    exact (BI.equiv_iff.mp ⟨BI.sep_assoc, BI.sep_assoc'⟩).symm
  unfold Gh G0
  obtain ⟨h1, h2, h3⟩ := sets_0
  rw [h1, h2, h3, e, Finset.sdiff_self, Finset.compl_univ]
  simp only [BI.bigSep_empty]
  iintro ⟨#HR, HO, ⟨HD, Hw, He⟩, HL⟩
  isplitr; · iexact HR
  isplitl [HO]; · iexact HO
  isplitl [HD HL]
  · isplitl [HD]; · iexact HD
    iexact HL
  isplitl [Hw]; · iexact Hw
  isplitr; · iempintro
  isplitl [He]; · iexact He
  isplitr; · iempintro
  iempintro

/-- The wait of the barrier: every transfer has its memory. -/
theorem bar_wait (c : Dev nD) {α : Type} {Q : α → sProp 𝕄} {k : PUnit → Prog (TpuEff nD τ sig (Elt F) Λ₀ .tc) α} :
    iprop(recs m ∗ (∃ W, owes (c : Thread nD τ) (debt c Finset.univ) W) ∗ G0 c ∗ atPos ER (barCell c) 0 ∅ 0 ∗ cred (tallyAt (barCell c) () 4))
      ⊢ iprop(((Gh m c 0 ∗ semVal (barCell c) 0) -∗ WP (F := F) (α := α) c (k ⟨⟩) Q)
        -∗ WP (F := F) (α := α) c (.op (.semWait barS (4#32).toInt) k) Q) := by
  have hlev : ∀ t' ∈ (Finset.univ : Finset Tr), lv (barCell c) () < 2 + t'.pos := fun t' _ => by
    have : lv (barCell c) () = 1 := rfl
    omega
  iintro ⟨#HR, ⟨%W, HO⟩, HG, Hat, Hc⟩ Hk
  ihave #H1 := (recs_bar (F := F) m c) $$ HR
  unfold Rec
  icases H1 with ⟨⟨%κ, #HI⟩, #Hr⟩
  iapply (Rounds.wp_wait_rest_token 𝒱₀ ER (Rd m) (c : Thread nD τ) none (κ := κ)
      (wpE_semWait_eq 𝒱₀ (c : Thread nD τ) none Set.univ) (Set.mem_univ _) () (O := debt c Finset.univ) (W := W) (R := 0) (m := 0) (T := ∅)
      (by rw [expect_bar]; decide)) $$ [Hc HO Hat]
  · isplitr; · iexact HI
    isplitl [Hc]; · iexact Hc
    isplitl [HO]; · iexact HO
    isplitr; · iapply (recs_may (F := F) m c (.reg barS) Finset.univ hlev); iexact HR
    iexact Hat
  iintro ⟨HO, Hat, -, Hpay⟩
  ihave Hp := ((Entails.of_eq (rest_bar m c)).trans (barPay_all c)) $$ Hpay
  imod (Rounds.cell_close ER (Rd m) (Set.mem_univ κ) (fun h => h) (R := 0 + 1) (duties_later m (barCell c))) $$ [Hat] with Hz
  · isplitr; · iexact HI
    iexact Hat
  iapply Hk
  isplitr [Hz]
  · iapply (Gh_0 m c)
    isplitr; · iexact HR
    isplitl [HO]; · iexists _; iexact HO
    isplitl [HG]; · iexact HG
    iexact Hp
  iexact Hz

/-! ## The first three parts -/

/-- The first part computes the device's number, and changes nothing. -/
theorem part1 (c : Dev nD) {A : sProp 𝕄} {Q} (h : ∀ r, r.1 = c → (A ⊢ Q r)) :
    A ⊢ WP (F := F) c (args (k0_part1 (F := F))) Q := by
  simp only [args, k0_part1_eq_skeleton]
  unfold k0_part1_skel
  simp only [Prog.lift, Prog.bind_op, Prog.bind_ret, Prog.pure_eq_ret, Prog.bind_assoc, wp_deviceId]
  exact fin c (h _ rfl)

/-- A unit owed to device `c`'s barrier. -/
abbrev T1 (c : Dev nD) : CellTallies nD τ sig Unit := tallyAt (barCell c) () 1

/-- The second part signals three of the four neighbours. -/
theorem part2 (c : Dev nD) (v2 v5 v8 v19 v31 v33 v34 c0 : BitVec 32) {Q} :
    iprop(recs m ∗ (∃ W, owes (c : Thread nD τ) (debt c Finset.univ + T1 (yp c) + T1 (xp c) + T1 (zr c) + T1 (zl c)) W)
        ∗ dutyTok ER (barCell (zl c)) 0 0 ∗ barPay (zl c) 0 ∗ dutyTok ER (barCell (zr c)) 0 3 ∗ dutyTok ER (barCell (xp c)) 0 1 ∗ barPay (xp c) 1)
      ⊢ iprop((∀ r, ⌜r.2.2.2.1 = (SemArray.scalar (sig.barrier 0 rfl) : Sems sig S_)⌝
            -∗ (∃ W, owes (c : Thread nD τ) (debt c Finset.univ + T1 (yp c)) W) -∗ Q r)
        -∗ WP (F := F) c (args (k0_part2 (F := F)) c v2 v5 v8 v19 v31 v33 v34 c0) Q) := by
  simp only [args, k0_part2_eq_skeleton]
  unfold k0_part2_skel
  simp only [semSignalWord, Prog.lift, Prog.bind_op, Prog.bind_ret, Prog.pure_eq_ret, Prog.bind_assoc]
  have h1 : (⟨k0_dev1 c, k0_dev1_lt c⟩ : Dev nD) = zl c := by revert c; decide +kernel
  have h2 : (⟨k0_dev2 c, k0_dev2_lt c⟩ : Dev nD) = zr c := by revert c; decide +kernel
  have h3 : (⟨k0_dev3 c, k0_dev3_lt c⟩ : Dev nD) = xp c := by revert c; decide +kernel
  iintro ⟨#HR, HO, Ht0, Hp0, Ht3, Ht1, Hp1⟩ Hk
  iapply (sig_core m c _ _ h1 0) $$ [HO Ht0 Hp0]
  · isplitr; · iexact HR
    isplitl [HO]; · iexact HO
    isplitl [Ht0]; · iexact Ht0
    iexact Hp0
  iintro HO
  iapply (sig_core m c _ _ h2 3) $$ [HO Ht3]
  · isplitr; · iexact HR
    isplitl [HO]; · iexact HO
    isplitl [Ht3]; · iexact Ht3
    rw [barPay_back]; iempintro
  iintro HO
  iapply (sig_core m c _ _ h3 1) $$ [HO Ht1 Hp1]
  · isplitr; · iexact HR
    isplitl [HO]; · iexact HO
    isplitl [Ht1]; · iexact Ht1
    iexact Hp1
  iintro HO
  iapply (fin c .rfl)
  iapply Hk $$ [] HO
  ipureintro; rfl

/-- A DMA semaphore of the local copies, at zero. -/
abbrev V84 (c : Dev nD) : sProp 𝕄 := semVal ((c : Thread nD τ), SemLoc.dma (⟨84, by decide⟩ : DmaSem sig)) 0
/-- The second semaphore of the local copies, at zero. -/
abbrev V85 (c : Dev nD) : sProp 𝕄 := semVal ((c : Thread nD τ), SemLoc.dma (⟨85, by decide⟩ : DmaSem sig)) 0

/-- The first semaphore of the local copies is no transfer's. -/
theorem end84 : endOf (⟨84, by decide⟩ : DmaSem sig) = none := by decide +kernel
/-- The second semaphore of the local copies is no transfer's. -/
theorem end85 : endOf (⟨85, by decide⟩ : DmaSem sig) = none := by decide +kernel

/-- A buffer wholly overwritten holds what was written. -/
theorem acc_written (c : Dev nD) (f g : S1024x1024.Idx → Elt F .f32) :
    (aM.view.loc (c : Thread nD τ) ↦[aM.view.set]{fullShare} (aM.view.write (Elt F) f g Finset.univ) : sProp 𝕄) = accAt fullShare c g := by
  rw [View.write_whole_univ, View.set_whole]
  rfl
/-- The local chunk after a copy into the whole of it. -/
theorem y_written (c : Dev nD) (f g : S1024x1024.Idx → Elt F .f32) :
    (yM.view.loc (c : Thread nD τ) ↦[yM.view.set]{fullShare} (yM.view.write (Elt F) f g Finset.univ) : sProp 𝕄) = yAt c g := by
  rw [View.write_whole_univ]
  rfl
/-- The accumulator, as a copy into the whole of it names it. -/
theorem acc_whole (c : Dev nD) (f : S1024x1024.Idx → Elt F .f32) :
    (accAt fullShare c f : sProp 𝕄) = (aM.view.loc (c : Thread nD τ) ↦[aM.view.set]{fullShare} f) := by
  rw [View.set_whole]
  rfl

/-- The third part signals the last neighbour, waits on the barrier, and copies the device's own chunk into the accumulator. -/
theorem part3 (c : Dev nD) (v2 v5 v8 v19 v40 v65 v66 : BitVec 32) {Q} :
    iprop(recs m ∗ (∃ W, owes (c : Thread nD τ) (debt c Finset.univ + T1 (yp c)) W)
        ∗ dutyTok ER (barCell (yp c)) 0 2 ∗ barPay (yp c) 2 ∗ G0 c ∗ atPos ER (barCell c) 0 ∅ 0 ∗ cred (tallyAt (barCell c) () 4)
        ∗ xAt m c ∗ (∃ f, accAt fullShare c f) ∗ V84 c)
      ⊢ iprop((∀ r, (Gh m c 0 ∗ semVal (barCell c) 0 ∗ xAt m c ∗ accAt fullShare c (acc m 0 c) ∗ V84 c) -∗ Q r)
        -∗ WP (F := F) c (args (k0_part3 (F := F)) c v2 v5 v8 v19 v40 (SemArray.scalar (sig.barrier 0 rfl) : Sems sig S_) v65 v66) Q) := by
  simp only [args, k0_part3_eq_skeleton]
  unfold k0_part3_skel
  simp only [semSignalWord, semWaitWord, Prog.lift, Prog.bind_op, Prog.bind_ret, Prog.pure_eq_ret, Prog.bind_assoc]
  have h4 : (⟨k0_dev4 c, k0_dev4_lt c⟩ : Dev nD) = yp c := by revert c; decide +kernel
  have ho : k0_off1 c = ![4096 * (c.val / 4) + 1024 * ((c.val % 4) % 4), 0] := by revert c; decide +kernel
  iintro ⟨#HR, HO, Ht2, Hp2, HG, Hat, Hc, Hx, ⟨%f, Ha⟩, Hv⟩ Hk
  iapply (sig_core m c _ _ h4 2) $$ [HO Ht2 Hp2]
  · isplitr; · iexact HR
    isplitl [HO]; · iexact HO
    isplitl [Ht2]; · iexact Ht2
    iexact Hp2
  iintro HO
  iapply (bar_wait m c) $$ [HO HG Hat Hc]
  · isplitr; · iexact HR
    isplitl [HO]; · iexact HO
    isplitl [HG]; · iexact HG
    isplitl [Hat]; · iexact Hat
    iexact Hc
  iintro ⟨HG, Hb⟩
  ihave Ha' := (Entails.of_eq (acc_whole c f)) $$ Ha
  iapply (copy_x m c (c.val % 4) ho (dst := aM) (fd := f) rfl rfl end84 (View.dmaCredit_pos _ (by decide))) $$ [HG Hx Ha' Hv]
  · isplitl [HG]; · iexact HG
    isplitl [Hx]; · iexact Hx
    isplitl [Ha']; · iexact Ha'
    iexact Hv
  iintro ⟨HG, Hx, Ha, Hv⟩
  iapply (fin c .rfl)
  iapply Hk
  isplitl [HG]; · iexact HG
  isplitl [Hb]; · iexact Hb
  isplitl [Hx]; · iexact Hx
  isplitl [Ha]; · iapply (Entails.of_eq (acc_written c f (xch m c (c.val % 4)))); iexact Ha
  iexact Hv

end Cert.KernelIdeal.AllReduce

end
-- ==== Proof.Parts1.lean ====
module

public import proofs.«01_k».proof.Proof.Start

@[expose] public section

/-! # The first phase: the parts of the body that reduce along `z`. -/

set_option maxRecDepth 20000

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

/-! ## The steps of the reduction along `z` -/

section Steps

variable {α : Type} {n : ℕ} (c : Dev nD)

/-- The slots of the first `k` additions. -/
def Lz (k : ℕ) : sProp 𝕄 := bigSep (Finset.univ.filter fun p : Fin 3 × Fin 4 => 4 * p.1.val + p.2.val < k) fun p => Land c (.z p.1 p.2)

/-- One more addition done, one more slot used. -/
theorem Lz_succ (h : Fin 3) (s : Fin 4) {k : ℕ} (hk : k = 4 * h.val + s.val) :
    (Lz c (k + 1) : sProp 𝕄) = iprop(Land c (.z h s) ∗ Lz c k) := by
  subst hk
  unfold Lz
  have e : (Finset.univ.filter fun p : Fin 3 × Fin 4 => 4 * p.1.val + p.2.val < 4 * h.val + s.val + 1)
      = insert (h, s) (Finset.univ.filter fun p : Fin 3 × Fin 4 => 4 * p.1.val + p.2.val < 4 * h.val + s.val) := by
    revert h s; decide
  rw [e]
  exact bigSep_ins (by rw [Finset.mem_filter]; exact fun h => absurd h.2 (Nat.lt_irrefl _)) _

/-- The local chunk to be added at hop `j`, and the slots already used. -/
def Yz (j k : ℕ) : sProp 𝕄 := iprop(yAt c (xch m c (c.val % 4 + 3 - j)) ∗ Lz c k)

/-- A sub-block of the partial sum sent on. -/
theorem sz {h : Fin 3} {s : Fin 4} (j : ℕ) (hn : acts[n]? = some (.snd (.z h s))) (hj : j = h.val) {p : Dev nD} (hp : p = zr c)
    {src : Memref sig .tc .vmem S256x1024 .f32} {dst : Memref sig .tc .vmem S256x1024 .f32} (ho : src = subV s) (ho' : dst = slotV h s)
    {sS sR : DmaSem sig} {hsc : (dst : Memref sig (Dev.tc p : Thread nD τ).2.kind .vmem S256x1024 .f32).view.ref.isScScratch = false}
    {hsrc : src.view.WordExact} {hdst : dst.view.WordExact}
    {hsem : DmaTarget.Typed .vmem (.dma sR) (.remote (Dev.tc p : Thread nD τ) dst (.dma sS) hsc)}
    (hsS : sS = endSem (.z h s, false)) (hsR : sR = endSem (.z h s, true))
    {Q : α → sProp 𝕄} {k : PUnit → Prog (TpuEff nD τ sig (Elt F) Λ₀ .tc) α} :
    Gh m c n ⊢ iprop(subAt c s (acc m j c) -∗ (Gh m c (n + 1) -∗ WP (F := F) (α := α) c (k ⟨⟩) Q)
      -∗ WP (F := F) (α := α) c (.op (.enqueueDma src (.remote (Dev.tc p : Thread nD τ) dst (.dma sS) hsc) (.dma sR) hsrc hdst hsem) k) Q) := by
  subst hj
  exact BI.wand_intro (snd_z m c hn hp ho ho' hsS hsR)

/-- A sub-block back from its transfer. -/
theorem wsz {h : Fin 3} {s : Fin 4} (j : ℕ) (hn : acts[n]? = some (.ws (.z h s))) (hj : j = h.val)
    {sp sp' : Space} {sh : Shape} {src : Memref sig .tc sp sh .f32} {dst : Memref sig .tc sp' sh .f32}
    {q : DmaSem sig} {hsrc : src.view.WordExact} {hdst : dst.view.WordExact}
    (hq : q = endSem (.z h s, false)) (hN : dst.view.dmaCredit = (subV 0).view.dmaCredit)
    {Q : α → sProp 𝕄} {k : PUnit → Prog (TpuEff nD τ sig (Elt F) Λ₀ .tc) α} :
    Gh m c n ⊢ iprop(((Gh m c (n + 1) ∗ subAt c s (acc m j c)) -∗ WP (F := F) (α := α) c (k ⟨⟩) Q)
        -∗ WP (F := F) (α := α) c (.op (.waitDma2 q src dst hsrc hdst) k) Q) := by
  subst hj
  exact ws_core m hn c hq hN

/-- A sub-block that came. -/
theorem wrz {h : Fin 3} {s : Fin 4} (hn : acts[n]? = some (.wr (.z h s)))
    {sp sp' : Space} {sh : Shape} {src : Memref sig .tc sp sh .f32} {dst : Memref sig .tc sp' sh .f32}
    {q : DmaSem sig} {hsrc : src.view.WordExact} {hdst : dst.view.WordExact}
    (hq : q = endSem (.z h s, true)) (hN : dst.view.dmaCredit = (subV 0).view.dmaCredit)
    {Q : α → sProp 𝕄} {k : PUnit → Prog (TpuEff nD τ sig (Elt F) Λ₀ .tc) α} :
    Gh m c n ⊢ iprop(((Gh m c (n + 1) ∗ RPay m c (.z h s)) -∗ WP (F := F) (α := α) c (k ⟨⟩) Q)
        -∗ WP (F := F) (α := α) c (.op (.waitDma2 q src dst hsrc hdst) k) Q) :=
  wr_core m hn c hq hN

/-- The loads of an addition. -/
theorem ldz (h : Fin 3) (s : Fin 4) (j k' : ℕ) (hj : j = h.val) (hk : k' = 4 * h.val + s.val) {f0 : S1024x1024.Idx → Elt F .f32}
    {o₁ : Fin 4 → ℕ} {o₂ o₃ : Fin 2 → ℕ} {i₁ : ∀ a, o₁ a + S1x1x256x1024.size a ≤ S3x4x256x1024.size a}
    {i₂ : ∀ a, o₂ a + S256x1024.size a ≤ S1024x1024.size a} {i₃ : ∀ a, o₃ a + S256x1024.size a ≤ S1024x1024.size a}
    (h₁ : o₁ = ![h.val, s.val, 0, 0]) (h₂ : o₂ = ![256 * s.val, 0]) (h₃ : o₃ = ![256 * s.val, 0]) {l₁ l₂ l₃}
    {Q : α → sProp 𝕄} {k : Vec F S1x1x256x1024 .f32 → Vec F S256x1024 .f32 → Vec F S256x1024 .f32 → Prog (TpuEff nD τ sig (Elt F) Λ₀ .tc) α} :
    RPay m c (.z h s) ⊢ iprop(subAt c s f0 -∗ Yz m c j k' -∗
      (∀ v w u, ⌜k0_pay1 v w = (subV s).view.read (Elt F) (acc m (h.val + 1) c)⌝
          -∗ (subAt c s f0 ∗ Yz m c j (k' + 1)) -∗ WP (F := F) (α := α) c (k v w u) Q)
        -∗ WP (F := F) (α := α) c (.op (.load sM (Rect.unit (s := S3x4x256x1024) o₁ S1x1x256x1024.size i₁).toLoadRect l₁) fun v =>
          .op (.load yM (Rect.unit (s := S1024x1024) o₂ S256x1024.size i₂).toLoadRect l₂) fun w =>
          .op (.load aM (Rect.unit (s := S1024x1024) o₃ S256x1024.size i₃).toLoadRect l₃) fun u => k v w u) Q) := by
  subst hj
  unfold Yz
  rw [Lz_succ c h s hk]
  iintro Hr Ha ⟨Hy, HL⟩ Hk
  iapply (add_loads m c h₁ h₂ h₃) $$ [Hr Ha Hy]
  · isplitl [Hr]; · iexact Hr
    isplitl [Ha]; · iexact Ha
    iexact Hy
  iintro %v %w %u %e ⟨Hl, Ha, Hy⟩
  iapply Hk $$ []
  · ipureintro; exact e
  isplitl [Ha]; · iexact Ha
  isplitl [Hy]; · iexact Hy
  isplitl [Hl]; · iexact Hl
  iexact HL

/-- An addition: the next partial sum. -/
theorem addz (h : Fin 3) (s : Fin 4) (j j' k' : ℕ) (hj : j = h.val) (hj' : j' = h.val + 1) (hk : k' = 4 * h.val + s.val) {f0 : S1024x1024.Idx → Elt F .f32}
    {pay : Vec F S1x1x256x1024 .f32 → Vec F S256x1024 .f32 → Vec F S256x1024 .f32} (hpay : pay = k0_pay1)
    {o₁ : Fin 4 → ℕ} {o₂ o₃ o₄ : Fin 2 → ℕ} {i₁ : ∀ a, o₁ a + S1x1x256x1024.size a ≤ S3x4x256x1024.size a}
    {i₂ : ∀ a, o₂ a + S256x1024.size a ≤ S1024x1024.size a} {i₃ : ∀ a, o₃ a + S256x1024.size a ≤ S1024x1024.size a}
    {i₄ : ∀ a, o₄ a + S256x1024.size a ≤ S1024x1024.size a}
    (h₁ : o₁ = ![h.val, s.val, 0, 0]) (h₂ : o₂ = ![256 * s.val, 0]) (h₃ : o₃ = ![256 * s.val, 0]) (h₄ : o₄ = ![256 * s.val, 0]) {l₁ l₂ l₃ l₄ l₅}
    {Q : α → sProp 𝕄} {k : PUnit → Prog (TpuEff nD τ sig (Elt F) Λ₀ .tc) α} :
    RPay m c (.z h s) ⊢ iprop(subAt c s f0 -∗ Yz m c j k' -∗
      ((subAt c s (acc m j' c) ∗ Yz m c j (k' + 1)) -∗ WP (F := F) (α := α) c (k ⟨⟩) Q)
        -∗ WP (F := F) (α := α) c (.op (.load sM (Rect.unit (s := S3x4x256x1024) o₁ S1x1x256x1024.size i₁).toLoadRect l₁) fun v =>
          .op (.load yM (Rect.unit (s := S1024x1024) o₂ S256x1024.size i₂).toLoadRect l₂) fun w =>
          .op (.load aM (Rect.unit (s := S1024x1024) o₃ S256x1024.size i₃).toLoadRect l₃) fun u =>
          .op (.store aM (Rect.unit (s := S1024x1024) o₄ S256x1024.size i₄) (pay v w) Finset.univ l₄ l₅) k) Q) := by
  subst hpay hj'
  iintro Hr Ha HY Hk
  iapply (ldz m c h s _ k' hj hk h₁ h₂ h₃ (f0 := f0)) $$ Hr Ha HY
  iintro %v %w %u %e ⟨Ha, HY⟩
  iapply (add_store c e h₄) $$ Ha
  iintro Ha
  iapply Hk
  isplitl [Ha]; · iexact Ha
  iexact HY

end Steps

/-! ## Parts 4 to 24 -/

/-- The piece of the finished accumulator that a first transfer carries. -/
def First (c : Dev nD) (t : Tr) : sProp 𝕄 := halfAt t.share c t.half (acc m 3 c)

/-- A half of the finished accumulator, as its three transfers and the local copy hold it. -/
theorem half_firsts (c : Dev nD) (i : Fin 2) :
    (halfAt fullShare c i (acc m 3 c) : sProp 𝕄)
      ⊣⊢ iprop((First m c (.xy 0 i 0) ∗ First m c (.xy 0 i 1)) ∗ First m c (.ag 0 i) ∗ halfAt fullShare.right.right c i (acc m 3 c)) :=
  half_shares c i (acc m 3 c)

/-- The first transfers, sent. -/
theorem sf {α : Type} {n : ℕ} (c : Dev nD) (t : Tr) (hn : acts[n]? = some (.snd t)) (hf : t.first = true) {p : Dev nD} (hp : p = t.peer c)
    {src : Memref sig .tc .vmem S512x1024 .f32} {dst : Memref sig .tc .hbm S512x1024 .f32} (ho : src = halfV t.half) (ho' : dst = outV (t.src c))
    {sS sR : DmaSem sig} {hsc : (dst : Memref sig (Dev.tc p : Thread nD τ).2.kind .hbm S512x1024 .f32).view.ref.isScScratch = false}
    {hsrc : src.view.WordExact} {hdst : dst.view.WordExact}
    {hsem : DmaTarget.Typed .vmem (.dma sR) (.remote (Dev.tc p : Thread nD τ) dst (.dma sS) hsc)}
    (hsS : sS = endSem (t, false)) (hsR : sR = endSem (t, true))
    {Q : α → sProp 𝕄} {k : PUnit → Prog (TpuEff nD τ sig (Elt F) Λ₀ .tc) α} :
    Gh m c n ⊢ iprop(First m c t -∗ (Gh m c (n + 1) -∗ WP (F := F) (α := α) c (k ⟨⟩) Q)
      -∗ WP (F := F) (α := α) c (.op (.enqueueDma src (.remote (Dev.tc p : Thread nD τ) dst (.dma sS) hsc) (.dma sR) hsrc hdst hsem) k) Q) :=
  BI.wand_intro (snd_first m c hn hf hp ho ho' hsS hsR)

/-- A chunk of the argument, to be added at hop `j`, copied in. -/
theorem cpy {α : Type} {n : ℕ} (c : Dev nD) (j : ℕ) {o : Fin 2 → ℕ} {io : ∀ a, o a + S1024x1024.size a ≤ S16384x1024.size a} {hu hu'}
    (ho : o = ![4096 * (c.val / 4) + 1024 * ((c.val % 4 + 3 - j) % 4), 0])
    {q q' : DmaSem sig} {hsrc hdst hsem hsrc' hdst'} {qn : DmaSem sig} (hq : q = qn) (hq' : q' = qn) (hqe : endOf qn = none)
    {f : S1024x1024.Idx → Elt F .f32} {Q : α → sProp 𝕄} {k : PUnit → Prog (TpuEff nD τ sig (Elt F) Λ₀ .tc) α} :
    Gh m c n ⊢ iprop(xAt m c -∗ yAt c f -∗ semVal ((c : Thread nD τ), SemLoc.dma qn) 0
      -∗ ((Gh m c n ∗ xAt m c ∗ yAt c (xch m c (c.val % 4 + 3 - j)) ∗ semVal ((c : Thread nD τ), SemLoc.dma qn) 0) -∗ WP (F := F) (α := α) c (k ⟨⟩) Q)
      -∗ WP (F := F) (α := α) c (.op (.enqueueDma (xM.slice (Rect.unit (s := S16384x1024) o S1024x1024.size io) hu) (.here yM) (.dma q) hsrc hdst hsem) fun _ =>
          .op (.waitDma2 q' (xM.slice (Rect.unit (s := S16384x1024) o S1024x1024.size io) hu') yM hsrc' hdst') k) Q) := by
  rw [← y_written c f (xch m c (c.val % 4 + 3 - j))]
  unfold yAt
  iintro HG Hx Hy Hv Hk
  iapply (copy_x m c (c.val % 4 + 3 - j) ho hq hq' hqe (View.dmaCredit_pos _ (by decide)) (dst := yM) (fd := f)) $$ [HG Hx Hy Hv]
  · isplitl [HG]; · iexact HG
    isplitl [Hx]; · iexact Hx
    isplitl [Hy]; · iexact Hy
    iexact Hv
  iexact Hk

/-- Which rows of the argument are copied in for the first hop. -/
theorem off2 (c : Dev nD) : k0_off2 c = ![4096 * (c.val / 4) + 1024 * ((c.val % 4 + 3 - 0) % 4), 0] := by revert c; decide +kernel
/-- Which rows are copied in for the second hop and for the third. -/
theorem off3 (c : Dev nD) : k0_off3 c 0#32 = ![4096 * (c.val / 4) + 1024 * ((c.val % 4 + 3 - 1) % 4), 0]
    ∧ k0_off3 c 1#32 = ![4096 * (c.val / 4) + 1024 * ((c.val % 4 + 3 - 2) % 4), 0] := by revert c; decide +kernel
/-- Which rows of the result the finished chunk goes to. -/
theorem off5 (c : Dev nD) : k0_off5 c = ![512 * (own c 0).val, 0] := by revert c; decide +kernel

/-- The buffer of the local chunk, between the hops: no slot used before hop `j`'s first is forgotten. -/
theorem Yz_intro (c : Dev nD) (j k : ℕ) : iprop(yAt c (xch m c (c.val % 4 + 3 - j)) ∗ Lz c k) ⊢ Yz m c j k := .rfl
/-- The local chunk and the used slots, apart. -/
theorem Yz_elim (c : Dev nD) (j k : ℕ) : Yz m c j k ⊢ iprop(yAt c (xch m c (c.val % 4 + 3 - j)) ∗ Lz c k) := .rfl
/-- Before the first addition no slot is used. -/
theorem Lz_0 (c : Dev nD) : (iprop(emp) : sProp 𝕄) ⊢ Lz c 0 := by
  unfold Lz
  rw [show (Finset.univ.filter fun p : Fin 3 × Fin 4 => 4 * p.1.val + p.2.val < 0) = ∅ from by decide, BI.bigSep_empty]
  exact .rfl

/-- Steps 0 to 2. -/
theorem part4 (c : Dev nD) (v2 v5 v19 : BitVec 32) {Q} :
    Gh m c 0 ⊢ iprop(subAt c 0 (acc m 0 c) -∗ subAt c 1 (acc m 0 c) -∗ subAt c 2 (acc m 0 c) -∗ (∀ r, Gh m c 3 -∗ Q r)
      -∗ WP (F := F) c (args (k0_part4 (F := F)) c v2 v5 v19) Q) := by
  simp only [args, k0_part4_eq_skeleton]
  unfold k0_part4_skel
  simp only [Prog.lift, Prog.bind_op, Prog.bind_ret, Prog.pure_eq_ret, Prog.bind_assoc]
  have p5 : (⟨k0_dev5 c, k0_dev5_lt c⟩ : Dev nD) = zr c := by revert c; decide +kernel
  have p6 : (⟨k0_dev6 c, k0_dev6_lt c⟩ : Dev nD) = zr c := by revert c; decide +kernel
  have p7 : (⟨k0_dev7 c, k0_dev7_lt c⟩ : Dev nD) = zr c := by revert c; decide +kernel
  iintro HG H0 H1 H2 Hk
  iapply (sz m c (h := 0) (s := 0) 0 rfl rfl p5 rfl rfl rfl rfl) $$ HG H0
  iintro HG
  iapply (sz m c (h := 0) (s := 1) 0 rfl rfl p6 rfl rfl rfl rfl) $$ HG H1
  iintro HG
  iapply (sz m c (h := 0) (s := 2) 0 rfl rfl p7 rfl rfl rfl rfl) $$ HG H2
  iintro HG
  iapply (fin c .rfl)
  iapply Hk $$ HG

/-- Steps 3 to 3. -/
theorem part5 (c : Dev nD) (v2 v5 v8 v19 v40 : BitVec 32) {Q} :
    Gh m c 3 ⊢ iprop(subAt c 3 (acc m 0 c) -∗ xAt m c -∗ V85 c -∗ (∃ f, yAt c f) -∗ (∀ r, Gh m c 4 -∗ xAt m c -∗ V85 c -∗ Yz m c 0 0 -∗ Q r)
      -∗ WP (F := F) c (args (k0_part5 (F := F)) c v2 v5 v8 v19 v40) Q) := by
  simp only [args, k0_part5_eq_skeleton]
  unfold k0_part5_skel
  simp only [Prog.lift, Prog.bind_op, Prog.bind_ret, Prog.pure_eq_ret, Prog.bind_assoc]
  have p8 : (⟨k0_dev8 c, k0_dev8_lt c⟩ : Dev nD) = zr c := by revert c; decide +kernel
  iintro HG H3 Hx Hv Hy Hk
  iapply (sz m c (h := 0) (s := 3) 0 rfl rfl p8 rfl rfl rfl rfl) $$ HG H3
  iintro HG
  icases Hy with ⟨%f, Hy⟩
  iapply (cpy m c 0 (off2 c) rfl rfl end85) $$ HG Hx Hy Hv
  iintro ⟨HG, Hx, Hy, Hv⟩
  ihave HL := (Lz_0 (F := F) c) $$ []
  · iempintro
  ihave HY := (Yz_intro m c 0 0) $$ [Hy HL]
  · isplitl [Hy]; · iexact Hy
    iexact HL
  iapply (fin c .rfl)
  iapply Hk $$ HG Hx Hv HY

/-- Steps 4 to 5. -/
theorem part6 (c : Dev nD) (v2 v5 v19 : BitVec 32) {Q} :
    Gh m c 4 ⊢ iprop(Yz m c 0 0 -∗ (∀ r, Gh m c 6 -∗ subAt c 0 (acc m 1 c) -∗ Yz m c 0 1 -∗ Q r)
      -∗ WP (F := F) c (args (k0_part6 (F := F)) v2 v5 v19) Q) := by
  simp only [args, k0_part6_eq_skeleton]
  unfold k0_part6_skel
  simp only [Prog.lift, Prog.bind_op, Prog.bind_ret, Prog.pure_eq_ret, Prog.bind_assoc]
  iintro HG HY Hk
  iapply (wsz m c (h := 0) (s := 0) 0 rfl rfl rfl credit_sub) $$ HG
  iintro ⟨HG, H0⟩
  iapply (wrz m c (h := 0) (s := 0) rfl rfl credit_slot) $$ HG
  iintro ⟨HG, HR⟩
  iapply (addz m c 0 0 0 1 0 rfl rfl rfl (pay := k0_pay1) rfl rfl rfl rfl rfl) $$ HR H0 HY
  iintro ⟨H0, HY⟩
  iapply (fin c .rfl)
  iapply Hk $$ HG H0 HY

/-- Steps 6 to 8. -/
theorem part7 (c : Dev nD) (v2 v5 v19 v183 : BitVec 32) {Q} :
    Gh m c 6 ⊢ iprop(subAt c 0 (acc m 1 c) -∗ (∀ r, Gh m c 9 -∗ subAt c 1 (acc m 0 c) -∗ RPay m c (.z 0 1) -∗ Q r)
      -∗ WP (F := F) c (args (k0_part7 (F := F)) c v2 v5 v19 v183) Q) := by
  simp only [args, k0_part7_eq_skeleton]
  unfold k0_part7_skel
  simp only [Prog.lift, Prog.bind_op, Prog.bind_ret, Prog.pure_eq_ret, Prog.bind_assoc]
  have p9 : (⟨k0_dev9 c, k0_dev9_lt c⟩ : Dev nD) = zr c := by revert c; decide +kernel
  iintro HG H0 Hk
  iapply (sz m c (h := 1) (s := 0) 1 rfl rfl p9 rfl rfl rfl rfl) $$ HG H0
  iintro HG
  iapply (wsz m c (h := 0) (s := 1) 0 rfl rfl rfl credit_sub) $$ HG
  iintro ⟨HG, H1⟩
  iapply (wrz m c (h := 0) (s := 1) rfl rfl credit_slot) $$ HG
  iintro ⟨HG, HR⟩
  iapply (fin c .rfl)
  iapply Hk $$ HG H1 HR

/-- Steps 9 to 10. -/
theorem part8 (c : Dev nD) (v2 v5 v19 : BitVec 32) {Q} :
    Gh m c 9 ⊢ iprop(RPay m c (.z 0 1) -∗ subAt c 1 (acc m 0 c) -∗ Yz m c 0 1 -∗ (∀ r, Gh m c 11 -∗ Yz m c 0 2 -∗ subAt c 2 (acc m 0 c) -∗ Q r)
      -∗ WP (F := F) c (args (k0_part8 (F := F)) c v2 v5 v19) Q) := by
  simp only [args, k0_part8_eq_skeleton]
  unfold k0_part8_skel
  simp only [Prog.lift, Prog.bind_op, Prog.bind_ret, Prog.pure_eq_ret, Prog.bind_assoc]
  have p10 : (⟨k0_dev10 c, k0_dev10_lt c⟩ : Dev nD) = zr c := by revert c; decide +kernel
  iintro HG HR H1 HY Hk
  iapply (addz m c 0 1 0 1 1 rfl rfl rfl (pay := k0_pay2) rfl rfl rfl rfl rfl) $$ HR H1 HY
  iintro ⟨H1, HY⟩
  iapply (sz m c (h := 1) (s := 1) 1 rfl rfl p10 rfl rfl rfl rfl) $$ HG H1
  iintro HG
  iapply (wsz m c (h := 0) (s := 2) 0 rfl rfl rfl credit_sub) $$ HG
  iintro ⟨HG, H2⟩
  iapply (fin c .rfl)
  iapply Hk $$ HG HY H2

/-- Steps 11 to 11. -/
theorem part9 (c : Dev nD) (v2 v5 v19 : BitVec 32) {Q} :
    Gh m c 11 ⊢ iprop(subAt c 2 (acc m 0 c) -∗ Yz m c 0 2 -∗ (∀ r, Gh m c 12 -∗ subAt c 2 (acc m 1 c) -∗ Yz m c 0 3 -∗ Q r)
      -∗ WP (F := F) c (args (k0_part9 (F := F)) v2 v5 v19) Q) := by
  simp only [args, k0_part9_eq_skeleton]
  unfold k0_part9_skel
  simp only [Prog.lift, Prog.bind_op, Prog.bind_ret, Prog.pure_eq_ret, Prog.bind_assoc]
  iintro HG H2 HY Hk
  iapply (wrz m c (h := 0) (s := 2) rfl rfl credit_slot) $$ HG
  iintro ⟨HG, HR⟩
  iapply (addz m c 0 2 0 1 2 rfl rfl rfl (pay := k0_pay3) rfl rfl rfl rfl rfl) $$ HR H2 HY
  iintro ⟨H2, HY⟩
  iapply (fin c .rfl)
  iapply Hk $$ HG H2 HY

/-- Steps 12 to 14. -/
theorem part10 (c : Dev nD) (v2 v5 v19 : BitVec 32) {Q} :
    Gh m c 12 ⊢ iprop(subAt c 2 (acc m 1 c) -∗ Yz m c 0 3 -∗ (∀ r, Gh m c 15 -∗ subAt c 3 (acc m 1 c) -∗ Yz m c 0 4 -∗ Q r)
      -∗ WP (F := F) c (args (k0_part10 (F := F)) c v2 v5 v19) Q) := by
  simp only [args, k0_part10_eq_skeleton]
  unfold k0_part10_skel
  simp only [Prog.lift, Prog.bind_op, Prog.bind_ret, Prog.pure_eq_ret, Prog.bind_assoc]
  have p11 : (⟨k0_dev11 c, k0_dev11_lt c⟩ : Dev nD) = zr c := by revert c; decide +kernel
  iintro HG H2 HY Hk
  iapply (sz m c (h := 1) (s := 2) 1 rfl rfl p11 rfl rfl rfl rfl) $$ HG H2
  iintro HG
  iapply (wsz m c (h := 0) (s := 3) 0 rfl rfl rfl credit_sub) $$ HG
  iintro ⟨HG, H3⟩
  iapply (wrz m c (h := 0) (s := 3) rfl rfl credit_slot) $$ HG
  iintro ⟨HG, HR⟩
  iapply (addz m c 0 3 0 1 3 rfl rfl rfl (pay := k0_pay4) rfl rfl rfl rfl rfl) $$ HR H3 HY
  iintro ⟨H3, HY⟩
  iapply (fin c .rfl)
  iapply Hk $$ HG H3 HY

/-- Steps 15 to 15. -/
theorem part11 (c : Dev nD) (v2 v5 v8 v19 v40 : BitVec 32) {Q} :
    Gh m c 15 ⊢ iprop(subAt c 3 (acc m 1 c) -∗ xAt m c -∗ V84 c -∗ Yz m c 0 4 -∗ (∀ r, Gh m c 16 -∗ xAt m c -∗ V84 c -∗ Yz m c 1 4 -∗ Q r)
      -∗ WP (F := F) c (args (k0_part11 (F := F)) c v2 v5 v8 v19 v40) Q) := by
  simp only [args, k0_part11_eq_skeleton]
  unfold k0_part11_skel
  simp only [Prog.lift, Prog.bind_op, Prog.bind_ret, Prog.pure_eq_ret, Prog.bind_assoc]
  have p12 : (⟨k0_dev12 c, k0_dev12_lt c⟩ : Dev nD) = zr c := by revert c; decide +kernel
  iintro HG H3 Hx Hv HY Hk
  iapply (sz m c (h := 1) (s := 3) 1 rfl rfl p12 rfl rfl rfl rfl) $$ HG H3
  iintro HG
  ihave HY' := (Yz_elim m c 0 4) $$ HY
  icases HY' with ⟨Hy, HL⟩
  iapply (cpy m c 1 (off3 c).1 rfl rfl end84) $$ HG Hx Hy Hv
  iintro ⟨HG, Hx, Hy, Hv⟩
  ihave HY := (Yz_intro m c 1 4) $$ [Hy HL]
  · isplitl [Hy]; · iexact Hy
    iexact HL
  iapply (fin c .rfl)
  iapply Hk $$ HG Hx Hv HY

/-- Steps 16 to 17. -/
theorem part12 (c : Dev nD) (v2 v5 v19 : BitVec 32) {Q} :
    Gh m c 16 ⊢ iprop(Yz m c 1 4 -∗ (∀ r, Gh m c 18 -∗ subAt c 0 (acc m 2 c) -∗ Yz m c 1 5 -∗ Q r)
      -∗ WP (F := F) c (args (k0_part12 (F := F)) v2 v5 v19) Q) := by
  simp only [args, k0_part12_eq_skeleton]
  unfold k0_part12_skel
  simp only [Prog.lift, Prog.bind_op, Prog.bind_ret, Prog.pure_eq_ret, Prog.bind_assoc]
  iintro HG HY Hk
  iapply (wsz m c (h := 1) (s := 0) 1 rfl rfl rfl credit_sub) $$ HG
  iintro ⟨HG, H0⟩
  iapply (wrz m c (h := 1) (s := 0) rfl rfl credit_slot) $$ HG
  iintro ⟨HG, HR⟩
  iapply (addz m c 1 0 1 2 4 rfl rfl rfl (pay := k0_pay5) rfl rfl rfl rfl rfl) $$ HR H0 HY
  iintro ⟨H0, HY⟩
  iapply (fin c .rfl)
  iapply Hk $$ HG H0 HY

/-- Steps 18 to 20. -/
theorem part13 (c : Dev nD) (v2 v5 v19 v347 c0 : BitVec 32) {Q} :
    Gh m c 18 ⊢ iprop(subAt c 0 (acc m 2 c) -∗ (∀ r, Gh m c 21 -∗ subAt c 1 (acc m 1 c) -∗ RPay m c (.z 1 1) -∗ Q r)
      -∗ WP (F := F) c (args (k0_part13 (F := F)) c v2 v5 v19 v347 c0) Q) := by
  simp only [args, k0_part13_eq_skeleton]
  unfold k0_part13_skel
  simp only [Prog.lift, Prog.bind_op, Prog.bind_ret, Prog.pure_eq_ret, Prog.bind_assoc]
  have p13 : (⟨k0_dev13 c, k0_dev13_lt c⟩ : Dev nD) = zr c := by revert c; decide +kernel
  iintro HG H0 Hk
  iapply (sz m c (h := 2) (s := 0) 2 rfl rfl p13 rfl rfl rfl rfl) $$ HG H0
  iintro HG
  iapply (wsz m c (h := 1) (s := 1) 1 rfl rfl rfl credit_sub) $$ HG
  iintro ⟨HG, H1⟩
  iapply (wrz m c (h := 1) (s := 1) rfl rfl credit_slot) $$ HG
  iintro ⟨HG, HR⟩
  iapply (fin c .rfl)
  iapply Hk $$ HG H1 HR

/-- Steps 21 to 22. -/
theorem part14 (c : Dev nD) (v2 v5 v19 : BitVec 32) {Q} :
    Gh m c 21 ⊢ iprop(RPay m c (.z 1 1) -∗ subAt c 1 (acc m 1 c) -∗ Yz m c 1 5 -∗ (∀ r, Gh m c 23 -∗ Yz m c 1 6 -∗ subAt c 2 (acc m 1 c) -∗ Q r)
      -∗ WP (F := F) c (args (k0_part14 (F := F)) c v2 v5 v19) Q) := by
  simp only [args, k0_part14_eq_skeleton]
  unfold k0_part14_skel
  simp only [Prog.lift, Prog.bind_op, Prog.bind_ret, Prog.pure_eq_ret, Prog.bind_assoc]
  have p14 : (⟨k0_dev14 c, k0_dev14_lt c⟩ : Dev nD) = zr c := by revert c; decide +kernel
  iintro HG HR H1 HY Hk
  iapply (addz m c 1 1 1 2 5 rfl rfl rfl (pay := k0_pay6) rfl rfl rfl rfl rfl) $$ HR H1 HY
  iintro ⟨H1, HY⟩
  iapply (sz m c (h := 2) (s := 1) 2 rfl rfl p14 rfl rfl rfl rfl) $$ HG H1
  iintro HG
  iapply (wsz m c (h := 1) (s := 2) 1 rfl rfl rfl credit_sub) $$ HG
  iintro ⟨HG, H2⟩
  iapply (fin c .rfl)
  iapply Hk $$ HG HY H2

/-- Steps 23 to 23. -/
theorem part15 (c : Dev nD) (v2 v5 v19 c0 : BitVec 32) {Q} :
    Gh m c 23 ⊢ iprop(subAt c 2 (acc m 1 c) -∗ Yz m c 1 6 -∗ (∀ r, Gh m c 24 -∗ subAt c 2 (acc m 2 c) -∗ Yz m c 1 7 -∗ Q r)
      -∗ WP (F := F) c (args (k0_part15 (F := F)) v2 v5 v19 c0) Q) := by
  simp only [args, k0_part15_eq_skeleton]
  unfold k0_part15_skel
  simp only [Prog.lift, Prog.bind_op, Prog.bind_ret, Prog.pure_eq_ret, Prog.bind_assoc]
  iintro HG H2 HY Hk
  iapply (wrz m c (h := 1) (s := 2) rfl rfl credit_slot) $$ HG
  iintro ⟨HG, HR⟩
  iapply (addz m c 1 2 1 2 6 rfl rfl rfl (pay := k0_pay7) rfl rfl rfl rfl rfl) $$ HR H2 HY
  iintro ⟨H2, HY⟩
  iapply (fin c .rfl)
  iapply Hk $$ HG H2 HY

/-- Steps 24 to 26. -/
theorem part16 (c : Dev nD) (v2 v5 v19 : BitVec 32) {Q} :
    Gh m c 24 ⊢ iprop(subAt c 2 (acc m 2 c) -∗ Yz m c 1 7 -∗ (∀ r, Gh m c 27 -∗ subAt c 3 (acc m 2 c) -∗ Yz m c 1 8 -∗ Q r)
      -∗ WP (F := F) c (args (k0_part16 (F := F)) c v2 v5 v19) Q) := by
  simp only [args, k0_part16_eq_skeleton]
  unfold k0_part16_skel
  simp only [Prog.lift, Prog.bind_op, Prog.bind_ret, Prog.pure_eq_ret, Prog.bind_assoc]
  have p15 : (⟨k0_dev15 c, k0_dev15_lt c⟩ : Dev nD) = zr c := by revert c; decide +kernel
  iintro HG H2 HY Hk
  iapply (sz m c (h := 2) (s := 2) 2 rfl rfl p15 rfl rfl rfl rfl) $$ HG H2
  iintro HG
  iapply (wsz m c (h := 1) (s := 3) 1 rfl rfl rfl credit_sub) $$ HG
  iintro ⟨HG, H3⟩
  iapply (wrz m c (h := 1) (s := 3) rfl rfl credit_slot) $$ HG
  iintro ⟨HG, HR⟩
  iapply (addz m c 1 3 1 2 7 rfl rfl rfl (pay := k0_pay8) rfl rfl rfl rfl rfl) $$ HR H3 HY
  iintro ⟨H3, HY⟩
  iapply (fin c .rfl)
  iapply Hk $$ HG H3 HY

/-- Steps 27 to 27. -/
theorem part17 (c : Dev nD) (v2 v5 v8 v19 v40 : BitVec 32) {Q} :
    Gh m c 27 ⊢ iprop(subAt c 3 (acc m 2 c) -∗ xAt m c -∗ V85 c -∗ Yz m c 1 8 -∗ (∀ r, Gh m c 28 -∗ xAt m c -∗ V85 c -∗ Yz m c 2 8 -∗ Q r)
      -∗ WP (F := F) c (args (k0_part17 (F := F)) c v2 v5 v8 v19 v40) Q) := by
  simp only [args, k0_part17_eq_skeleton]
  unfold k0_part17_skel
  simp only [Prog.lift, Prog.bind_op, Prog.bind_ret, Prog.pure_eq_ret, Prog.bind_assoc]
  have p16 : (⟨k0_dev16 c, k0_dev16_lt c⟩ : Dev nD) = zr c := by revert c; decide +kernel
  iintro HG H3 Hx Hv HY Hk
  iapply (sz m c (h := 2) (s := 3) 2 rfl rfl p16 rfl rfl rfl rfl) $$ HG H3
  iintro HG
  ihave HY' := (Yz_elim m c 1 8) $$ HY
  icases HY' with ⟨Hy, HL⟩
  iapply (cpy m c 2 (off3 c).2 rfl rfl end85) $$ HG Hx Hy Hv
  iintro ⟨HG, Hx, Hy, Hv⟩
  ihave HY := (Yz_intro m c 2 8) $$ [Hy HL]
  · isplitl [Hy]; · iexact Hy
    iexact HL
  iapply (fin c .rfl)
  iapply Hk $$ HG Hx Hv HY

/-- Steps 28 to 29. -/
theorem part18 (c : Dev nD) (v2 v5 v19 : BitVec 32) {Q} :
    Gh m c 28 ⊢ iprop(Yz m c 2 8 -∗ (∀ r, Gh m c 30 -∗ subAt c 0 (acc m 3 c) -∗ Yz m c 2 9 -∗ Q r)
      -∗ WP (F := F) c (args (k0_part18 (F := F)) v2 v5 v19) Q) := by
  simp only [args, k0_part18_eq_skeleton]
  unfold k0_part18_skel
  simp only [Prog.lift, Prog.bind_op, Prog.bind_ret, Prog.pure_eq_ret, Prog.bind_assoc]
  iintro HG HY Hk
  iapply (wsz m c (h := 2) (s := 0) 2 rfl rfl rfl credit_sub) $$ HG
  iintro ⟨HG, H0⟩
  iapply (wrz m c (h := 2) (s := 0) rfl rfl credit_slot) $$ HG
  iintro ⟨HG, HR⟩
  iapply (addz m c 2 0 2 3 8 rfl rfl rfl (pay := k0_pay9) rfl rfl rfl rfl rfl) $$ HR H0 HY
  iintro ⟨H0, HY⟩
  iapply (fin c .rfl)
  iapply Hk $$ HG H0 HY

/-- Steps 30 to 31. -/
theorem part19 (c : Dev nD) (v2 v5 v19 v40 v86 v87 : BitVec 32) {Q} :
    Gh m c 30 ⊢ iprop(Yz m c 2 9 -∗ (∀ r, Gh m c 32 -∗ subAt c 1 (acc m 3 c) -∗ Yz m c 2 10 -∗ Q r)
      -∗ WP (F := F) c (args (k0_part19 (F := F)) v2 v5 v19 v40 v86 v87) Q) := by
  simp only [args, k0_part19_eq_skeleton]
  unfold k0_part19_skel
  simp only [Prog.lift, Prog.bind_op, Prog.bind_ret, Prog.pure_eq_ret, Prog.bind_assoc]
  iintro HG HY Hk
  iapply (wsz m c (h := 2) (s := 1) 2 rfl rfl rfl credit_sub) $$ HG
  iintro ⟨HG, H1⟩
  iapply (wrz m c (h := 2) (s := 1) rfl rfl credit_slot) $$ HG
  iintro ⟨HG, HR⟩
  iapply (addz m c 2 1 2 3 9 rfl rfl rfl (pay := k0_pay10) rfl rfl rfl rfl rfl) $$ HR H1 HY
  iintro ⟨H1, HY⟩
  iapply (fin c .rfl)
  iapply Hk $$ HG H1 HY

/-- Steps 32 to 33. -/
theorem part20 (c : Dev nD) (v2 v5 v8 v19 v40 v86 v88 v538 v539 : BitVec 32) {Q} :
    Gh m c 32 ⊢ iprop(First m c (.xy 0 0 0) -∗ First m c (.xy 0 0 1) -∗ (∀ r, Gh m c 34 -∗ Q r)
      -∗ WP (F := F) c (args (k0_part20 (F := F)) c v2 v5 v8 v19 v40 v86 v88 v538 v539) Q) := by
  simp only [args, k0_part20_eq_skeleton]
  unfold k0_part20_skel
  simp only [Prog.lift, Prog.bind_op, Prog.bind_ret, Prog.pure_eq_ret, Prog.bind_assoc]
  have p17 : (⟨k0_dev17 c, k0_dev17_lt c⟩ : Dev nD) = (Tr.xy 0 0 0).peer c := by revert c; decide +kernel
  have p18 : (⟨k0_dev18 c, k0_dev18_lt c⟩ : Dev nD) = (Tr.xy 0 0 1).peer c := by revert c; decide +kernel
  iintro HG Fxy000 Fxy001 Hk
  iapply (sf m c (.xy 0 0 0) rfl rfl p17 rfl (outV_eq (off4 c (.xy 0 0 0) rfl 0#32 rfl)) rfl rfl) $$ HG Fxy000
  iintro HG
  iapply (sf m c (.xy 0 0 1) rfl rfl p18 rfl (outV_eq (off4 c (.xy 0 0 1) rfl 0#32 rfl)) rfl rfl) $$ HG Fxy001
  iintro HG
  iapply (fin c .rfl)
  iapply Hk $$ HG

/-- Steps 34 to 36. -/
theorem part21 (c : Dev nD) (v2 v5 v19 : BitVec 32) {Q} :
    Gh m c 34 ⊢ iprop(First m c (.ag 0 0) -∗ Yz m c 2 10 -∗ (∀ r, ⌜k0_pay12 r.1 = (subV 2).view.read (Elt F) (acc m 3 c)⌝ -∗ Gh m c 37 -∗ subAt c 2 (acc m 2 c) -∗ Yz m c 2 11 -∗ Q r)
      -∗ WP (F := F) c (args (k0_part21 (F := F)) c v2 v5 v19) Q) := by
  simp only [args, k0_part21_eq_skeleton]
  unfold k0_part21_skel
  simp only [Prog.lift, Prog.bind_op, Prog.bind_ret, Prog.pure_eq_ret, Prog.bind_assoc]
  have p19 : (⟨k0_dev19 c, k0_dev19_lt c⟩ : Dev nD) = (Tr.ag 0 0).peer c := by revert c; decide +kernel
  iintro HG Fag00 HY Hk
  iapply (sf m c (.ag 0 0) rfl rfl p19 rfl (outV_eq (off4 c (.ag 0 0) rfl 0#32 rfl)) rfl rfl) $$ HG Fag00
  iintro HG
  iapply (wsz m c (h := 2) (s := 2) 2 rfl rfl rfl credit_sub) $$ HG
  iintro ⟨HG, H2⟩
  iapply (wrz m c (h := 2) (s := 2) rfl rfl credit_slot) $$ HG
  iintro ⟨HG, HR⟩
  iapply (ldz m c 2 2 2 10 rfl rfl rfl rfl rfl) $$ HR H2 HY
  iintro %v %w %u %e ⟨H2, HY⟩
  iapply (fin c .rfl)
  iapply Hk $$ [] HG H2 HY
  ipureintro; exact e

/-- Steps 37 to 38. -/
theorem part22 (c : Dev nD) (v2 v5 v19 v86 : BitVec 32) (v598 : FVec F S256x1024 .f32) (v599 : Vec F S256x1024 .f32) (he : k0_pay12 v598 = (subV 2).view.read (Elt F) (acc m 3 c)) {Q} :
    Gh m c 37 ⊢ iprop(subAt c 2 (acc m 2 c) -∗ Yz m c 2 11 -∗ (∀ r, Gh m c 39 -∗ subAt c 2 (acc m 3 c) -∗ subAt c 3 (acc m 3 c) -∗ Yz m c 2 12 -∗ Q r)
      -∗ WP (F := F) c (args (k0_part22 (F := F)) v2 v5 v19 v86 v598 v599) Q) := by
  simp only [args, k0_part22_eq_skeleton]
  unfold k0_part22_skel
  simp only [Prog.lift, Prog.bind_op, Prog.bind_ret, Prog.pure_eq_ret, Prog.bind_assoc]
  iintro HG H2 HY Hk
  iapply (add_store c he rfl) $$ H2
  iintro H2
  iapply (wsz m c (h := 2) (s := 3) 2 rfl rfl rfl credit_sub) $$ HG
  iintro ⟨HG, H3⟩
  iapply (wrz m c (h := 2) (s := 3) rfl rfl credit_slot) $$ HG
  iintro ⟨HG, HR⟩
  iapply (addz m c 2 3 2 3 11 rfl rfl rfl (pay := k0_pay13) rfl rfl rfl rfl rfl) $$ HR H3 HY
  iintro ⟨H3, HY⟩
  iapply (fin c .rfl)
  iapply Hk $$ HG H2 H3 HY

/-- Steps 39 to 40. -/
theorem part23 (c : Dev nD) (v2 v5 v8 v40 v86 v87 v88 v625 : BitVec 32) {Q} :
    Gh m c 39 ⊢ iprop(First m c (.xy 0 1 0) -∗ First m c (.xy 0 1 1) -∗ (∀ r, Gh m c 41 -∗ Q r)
      -∗ WP (F := F) c (args (k0_part23 (F := F)) c v2 v5 v8 v40 v86 v87 v88 v625) Q) := by
  simp only [args, k0_part23_eq_skeleton]
  unfold k0_part23_skel
  simp only [Prog.lift, Prog.bind_op, Prog.bind_ret, Prog.pure_eq_ret, Prog.bind_assoc]
  have p20 : (⟨k0_dev20 c, k0_dev20_lt c⟩ : Dev nD) = (Tr.xy 0 1 0).peer c := by revert c; decide +kernel
  have p21 : (⟨k0_dev21 c, k0_dev21_lt c⟩ : Dev nD) = (Tr.xy 0 1 1).peer c := by revert c; decide +kernel
  iintro HG Fxy010 Fxy011 Hk
  iapply (sf m c (.xy 0 1 0) rfl rfl p20 rfl (outV_eq (off4 c (.xy 0 1 0) rfl 512#32 rfl)) rfl rfl) $$ HG Fxy010
  iintro HG
  iapply (sf m c (.xy 0 1 1) rfl rfl p21 rfl (outV_eq (off4 c (.xy 0 1 1) rfl 512#32 rfl)) rfl rfl) $$ HG Fxy011
  iintro HG
  iapply (fin c .rfl)
  iapply Hk $$ HG

end Cert.KernelIdeal.AllReduce

end
-- ==== Proof.Own.lean ====
module

public import proofs.«01_k».proof.Proof.Parts1

@[expose] public section

/-! # The copy of the finished chunk into the device's own result. -/

set_option maxRecDepth 20000

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

/-! ## The device's own chunk of the result -/

/-- Two blocks in a row, as one piece. -/
theorem own_in (b b' : Fin 32) (hb : b'.val = b.val + 1) {o : Fin 2 → ℕ} {io : ∀ a, o a + S1024x1024.size a ≤ S16384x1024.size a} {hu} (ho : o = ![512 * b.val, 0]) :
    (oM.slice (Rect.unit (s := S16384x1024) o S1024x1024.size io) hu).view.set = (outV b).view.set ∪ (outV b').view.set := by
  subst ho
  ext i
  rw [Finset.mem_union, mem_out, mem_out, hb]
  show i ∈ (((View.whole main_v1).slice (Rect.unit (s := S16384x1024) ![512 * b.val, 0] S1024x1024.size io)).set) ↔ _
  rw [View.set_slice_whole, Rect.mem_set_unit]
  refine ⟨fun h => ?_, fun h a => ?_⟩
  · have h0 : 512 * b.val ≤ (i 0).val ∧ (i 0).val < 512 * b.val + 1024 := h 0
    omega
  · fin_cases a
    · show 512 * b.val ≤ (i 0).val ∧ (i 0).val < 512 * b.val + 1024
      omega
    · exact ⟨Nat.zero_le _, (i 1).isLt⟩

/-- They share no element. -/
theorem own_disj (b b' : Fin 32) (hb : b'.val = b.val + 1) : Disjoint (outV b).view.set (outV b').view.set := by
  refine Finset.disjoint_left.mpr fun i h h' => ?_
  rw [mem_out] at h h'
  omega

/-- The number of the device that finishes a row. -/
theorem rowDev_val (r : Fin 16384) : (rowDev r).val = 4 * (r.val / 4096) + (r.val / 1024 + 3) % 4 := rfl

/-- The result at a row of a finished chunk. -/
theorem out_row (c : Dev nD) (r : Fin 16384) (k : Fin 1024) (x : Fin 1024) (hr : r.val = 4096 * (c.val / 4) + 1024 * ((c.val % 4 + 1) % 4) + k.val) :
    Out m (ix2 r x) = acc m 3 c (ix2 k x) := by
  have hk : k.val < 1024 := k.isLt
  have h1 : rowDev r = c := by
    apply Fin.ext
    rw [rowDev_val]
    omega
  have h2 : r.val % 1024 = k.val := by omega
  show acc m 3 (rowDev r) (ix2 ⟨r.val % 1024, _⟩ x) = _
  rw [h1]
  exact congrArg (fun z => acc m 3 c (ix2 z x)) (Fin.ext h2)

/-- Which row of the result an entry of the own chunk is. -/
theorem coord_own (b : Fin 32) {io hu} (x : S1024x1024.Idx) :
    (((oM.slice (Rect.unit (s := S16384x1024) ![512 * b.val, 0] S1024x1024.size io) hu).view.emb x) 0).val = 512 * b.val + (x 0).val
      ∧ ((oM.slice (Rect.unit (s := S16384x1024) ![512 * b.val, 0] S1024x1024.size io) hu).view.emb x) 1 = x 1 := by
  constructor
  · show 512 * b.val + 1 * (x 0).val = _; rw [Nat.one_mul]
  · apply Fin.ext; show 0 + 1 * (x 1).val = _; rw [Nat.one_mul, Nat.zero_add]

/-- Written with the finished accumulator, it is that chunk of the result. -/
theorem own_written (c : Dev nD) (b : Fin 32) (hb : 512 * b.val = 4096 * (c.val / 4) + 1024 * ((c.val % 4 + 1) % 4))
    {o : Fin 2 → ℕ} {io : ∀ a, o a + S1024x1024.size a ≤ S16384x1024.size a} {hu} (ho : o = ![512 * b.val, 0])
    (f : S16384x1024.Idx → Elt F .f32) (i : S16384x1024.Idx) (hi : i ∈ (oM.slice (Rect.unit (s := S16384x1024) o S1024x1024.size io) hu).view.set) :
    (oM.slice (Rect.unit (s := S16384x1024) o S1024x1024.size io) hu).view.write (Elt F) f (acc m 3 c) Finset.univ i = Out m i := by
  subst ho
  obtain ⟨x, -, rfl⟩ := Finset.mem_map.mp hi
  refine (View.write_emb_of_mem _ _ (Finset.mem_univ x)).trans ?_
  obtain ⟨h0, h1⟩ := coord_own b (io := io) (hu := hu) x
  generalize hi' : (oM.slice (Rect.unit (s := S16384x1024) ![512 * b.val, 0] S1024x1024.size io) hu).view.emb x = i' at h0 h1 ⊢
  have e := out_row m c (i' 0) (x 0) (i' 1) (h0.trans (congrArg (· + (x 0).val) hb))
  have ei : ix2 (i' 0) (i' 1) = i' := by funext a; fin_cases a <;> rfl
  have ex : ix2 (x 0) (i' 1) = x := by rw [h1]; funext a; fin_cases a <;> rfl
  exact ((congrArg (Out m) ei).symm.trans (e.trans (congrArg (acc m 3 c) ex))).symm

/-- The two blocks that a device finishes follow each other, and begin at the chunk after its own place on the ring. -/
theorem own_row (c : Dev nD) : (own c 1).val = (own c 0).val + 1 ∧ 512 * (own c 0).val = 4096 * (c.val / 4) + 1024 * ((c.val % 4 + 1) % 4) := by
  revert c; decide +kernel

/-- The accumulator, as a copy of the whole of it names it. -/
theorem acc_at (q : PosShare TreeShare) (c : Dev nD) (f : S1024x1024.Idx → Elt F .f32) :
    (accAt q c f : sProp 𝕄) = (aM.view.loc (c : Thread nD τ) ↦[aM.view.set]{q} f) := by
  rw [View.set_whole]; rfl

/-- The two blocks of the device's chunk, joined. -/
theorem own_join (c : Dev nD) {o : Fin 2 → ℕ} {io : ∀ a, o a + S1024x1024.size a ≤ S16384x1024.size a} {hu} (ho : o = ![512 * (own c 0).val, 0])
    (f f' : S16384x1024.Idx → Elt F .f32) :
    iprop(outAt fullShare c (own c 0) f ∗ outAt fullShare c (own c 1) f')
      ⊢ (iprop(∃ g : S16384x1024.Idx → Elt F .f32, (oM.slice (Rect.unit (s := S16384x1024) o S1024x1024.size io) hu).view.loc (c : Thread nD τ)
        ↦[(oM.slice (Rect.unit (s := S16384x1024) o S1024x1024.size io) hu).view.set]{fullShare} g) : sProp 𝕄) := by
  obtain ⟨hr, -⟩ := own_row c
  rw [own_in (own c 0) (own c 1) hr (io := io) (hu := hu) ho]
  refine (show iprop(outAt fullShare c (own c 0) f ∗ outAt fullShare c (own c 1) f') ⊢ _ from pointsTo_join (own_disj (own c 0) (own c 1) hr)).trans ?_
  iintro H
  iexists _
  iexact H

/-- Overwritten with the finished accumulator, they are two blocks of the result. -/
theorem own_back (c : Dev nD) {o : Fin 2 → ℕ} {io : ∀ a, o a + S1024x1024.size a ≤ S16384x1024.size a} {hu} (ho : o = ![512 * (own c 0).val, 0])
    (f : S16384x1024.Idx → Elt F .f32) :
    ((oM.slice (Rect.unit (s := S16384x1024) o S1024x1024.size io) hu).view.loc (c : Thread nD τ)
        ↦[(oM.slice (Rect.unit (s := S16384x1024) o S1024x1024.size io) hu).view.set]{fullShare}
        ((oM.slice (Rect.unit (s := S16384x1024) o S1024x1024.size io) hu).view.write (Elt F) f (aM.view.read (Elt F) (acc m 3 c)) Finset.univ) : sProp 𝕄)
      ⊢ iprop(outAt fullShare c (own c 0) (Out m) ∗ outAt fullShare c (own c 1) (Out m)) := by
  obtain ⟨hr, hb⟩ := own_row c
  rw [show aM.view.read (Elt F) (acc m 3 c) = acc m 3 c from rfl, pointsTo_congr (own_written m c (own c 0) hb (io := io) (hu := hu) ho f), own_in (own c 0) (own c 1) hr (io := io) (hu := hu) ho]
  exact (pointsTo_union (own_disj (own c 0) (own c 1) hr)).1

/-- The copy of the finished accumulator into the device's own result. -/
theorem cpo {α : Type} {n : ℕ} (c : Dev nD) {o : Fin 2 → ℕ} {io : ∀ a, o a + S1024x1024.size a ≤ S16384x1024.size a} {hu hu'}
    (ho : o = ![512 * (own c 0).val, 0])
    {q q' : DmaSem sig} {hsrc hdst hsem hsrc' hdst'} (hq : q = (⟨84, by decide⟩ : DmaSem sig)) (hq' : q' = (⟨84, by decide⟩ : DmaSem sig))
    {Q : α → sProp 𝕄} {k : PUnit → Prog (TpuEff nD τ sig (Elt F) Λ₀ .tc) α} :
    Gh m c n ⊢ iprop(accAt fullShare.right.right c (acc m 3 c) -∗ ((∃ f, outAt fullShare c (own c 0) f) ∗ (∃ f, outAt fullShare c (own c 1) f)) -∗ V84 c
      -∗ ((Gh m c n ∗ accAt fullShare.right.right c (acc m 3 c) ∗ (outAt fullShare c (own c 0) (Out m) ∗ outAt fullShare c (own c 1) (Out m)) ∗ V84 c)
        -∗ WP (F := F) (α := α) c (k ⟨⟩) Q)
      -∗ WP (F := F) (α := α) c (.op (.enqueueDma aM (.here (oM.slice (Rect.unit (s := S16384x1024) o S1024x1024.size io) hu)) (.dma q) hsrc hdst hsem) fun _ =>
          .op (.waitDma2 q' aM (oM.slice (Rect.unit (s := S16384x1024) o S1024x1024.size io) hu') hsrc' hdst') k) Q) := by
  have ha := acc_at fullShare.right.right c (acc m 3 c)
  iintro HG Ha ⟨⟨%f, H0⟩, ⟨%f', H1⟩⟩ Hv Hk
  ihave HD := (own_join c (io := io) (hu := hu) ho f f') $$ [H0 H1]
  · isplitl [H0]; · iexact H0
    iexact H1
  icases HD with ⟨%g, HD⟩
  ihave Ha := (Entails.of_eq ha) $$ Ha
  iapply (copy_core m c hq hq' end84 (View.dmaCredit_pos _ (by decide)) (qs := fullShare.right.right) (fs := acc m 3 c) (fd := g)) $$ [HG Ha HD Hv]
  · isplitl [HG]; · iexact HG
    isplitl [Ha]; · iexact Ha
    isplitl [HD]; · iexact HD
    iexact Hv
  iintro ⟨HG, Ha, HD, Hv⟩
  ihave Ha := (Entails.of_eq ha.symm) $$ Ha
  ihave HD := (own_back m c (io := io) (hu := hu) ho g) $$ HD
  iapply Hk
  isplitl [HG]; · iexact HG
  isplitl [Ha]; · iexact Ha
  isplitl [HD]; · iexact HD
  iexact Hv

/-- Steps 41 to 41. -/
theorem part24 (c : Dev nD) (v2 v5 v8 v19 v40 v86 c0 : BitVec 32) {Q} :
    Gh m c 41 ⊢ iprop(First m c (.ag 0 1) -∗ accAt fullShare.right.right c (acc m 3 c) -∗ ((∃ f, outAt fullShare c (own c 0) f) ∗ (∃ f, outAt fullShare c (own c 1) f)) -∗ V84 c -∗ (∀ r, Gh m c 42 -∗ accAt fullShare.right.right c (acc m 3 c) -∗ (outAt fullShare c (own c 0) (Out m) ∗ outAt fullShare c (own c 1) (Out m)) -∗ V84 c -∗ Q r)
      -∗ WP (F := F) c (args (k0_part24 (F := F)) c v2 v5 v8 v19 v40 v86 c0) Q) := by
  simp only [args, k0_part24_eq_skeleton]
  unfold k0_part24_skel
  simp only [Prog.lift, Prog.bind_op, Prog.bind_ret, Prog.pure_eq_ret, Prog.bind_assoc]
  have p22 : (⟨k0_dev22 c, k0_dev22_lt c⟩ : Dev nD) = (Tr.ag 0 1).peer c := by revert c; decide +kernel
  iintro HG Fag01 Hx0 Ho Hv Hk
  iapply (sf m c (.ag 0 1) rfl rfl p22 rfl (outV_eq (off4 c (.ag 0 1) rfl 512#32 rfl)) rfl rfl) $$ HG Fag01
  iintro HG
  iapply (cpo m c (off5 c) rfl rfl) $$ HG Hx0 Ho Hv
  iintro ⟨HG, Hx0, Ho, Hv⟩
  iapply (fin c .rfl)
  iapply Hk $$ HG Hx0 Ho Hv

end Cert.KernelIdeal.AllReduce

end
-- ==== Proof.Body.lean ====
module

public import proofs.«01_k».proof.Proof.Own

@[expose] public section

/-! # The whole body. -/

set_option maxRecDepth 20000

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

/-! ## The whole body -/

/-- A program and its continuation, one after the other. -/
theorem bindw (c : Dev nD) {α β : Type} {p : Prog (TpuEff nD τ sig (Elt F) Λ₀ .tc) α} {k : α → Prog (TpuEff nD τ sig (Elt F) Λ₀ .tc) β}
    {Q : β → sProp 𝕄} : WP (F := F) c p (fun a => WP (F := F) c (k a) Q) ⊢ WP (F := F) (α := β) c (p >>= k) Q :=
  Entails.of_eq (wp_bind _ _ _ _ _ _).symm

/-- The same, with a premise. -/
theorem bindw' (c : Dev nD) {α β : Type} {p : Prog (TpuEff nD τ sig (Elt F) Λ₀ .tc) α} {k : α → Prog (TpuEff nD τ sig (Elt F) Λ₀ .tc) β}
    {A : sProp 𝕄} {Q : β → sProp 𝕄} (h : A ⊢ WP (F := F) c p (fun a => WP (F := F) c (k a) Q)) : A ⊢ WP (F := F) (α := β) c (p >>= k) Q :=
  h.trans (bindw c)

/-- What a program does to one part of the state, it does beside the rest. -/
theorem beside (c : Dev nD) {α : Type} {p : Prog (TpuEff nD τ sig (Elt F) Λ₀ .tc) α} {A B : sProp 𝕄} {Q : α → sProp 𝕄}
    (h : A ⊢ WP (F := F) c p fun _ => B) : A ⊢ iprop((∀ a, B -∗ Q a) -∗ WP (F := F) c p Q) :=
  h.trans (wp_wand _ _ _)

/-- The first part, for a postcondition that asks the device's number. -/
theorem part1_wand (c : Dev nD) {Q} :
    iprop(∀ r, ⌜r.1 = c⌝ -∗ Q r) ⊢ WP (F := F) c (args (k0_part1 (F := F))) Q :=
  part1 c fun r hr => by
    iintro H
    iapply H
    ipureintro
    exact hr

/-- Two finished sub-blocks, as the pieces sent out of their half. -/
theorem subs_firsts (c : Dev nD) (i : Fin 2) (s s' : Fin 4) (hs : s.val = 2 * i.val) (hs' : s'.val = 2 * i.val + 1) :
    iprop(subAt c s (acc m 3 c) ∗ subAt c s' (acc m 3 c))
      ⊢ iprop(First m c (.xy 0 i 0) ∗ First m c (.xy 0 i 1) ∗ First m c (.ag 0 i) ∗ halfAt fullShare.right.right c i (acc m 3 c)) :=
  (half_subs c i s s' hs hs' _).2.trans ((half_firsts m c i).1.trans BI.sep_assoc)

/-- What device `c` starts its body with. -/
def Start (c : Dev nD) : sProp 𝕄 :=
  iprop(recs m ∗ (∃ W, owes (c : Thread nD τ) (debt c Finset.univ + T1 (yp c) + T1 (xp c) + T1 (zr c) + T1 (zl c)) W)
    ∗ (dutyTok ER (barCell (zl c)) 0 0 ∗ dutyTok ER (barCell (zr c)) 0 3 ∗ dutyTok ER (barCell (xp c)) 0 1 ∗ dutyTok ER (barCell (yp c)) 0 2)
    ∗ (barPay (zl c) 0 ∗ barPay (xp c) 1 ∗ barPay (yp c) 2)
    ∗ G0 c ∗ atPos ER (barCell c) 0 ∅ 0 ∗ cred (tallyAt (barCell c) () 4)
    ∗ xAt m c ∗ (∃ f, accAt fullShare c f) ∗ (∃ f, yAt c f) ∗ V84 c ∗ V85 c
    ∗ (∃ f, outAt fullShare c (own c 0) f) ∗ (∃ f, outAt fullShare c (own c 1) f))

/-- What it ends it with. -/
def Stop (c : Dev nD) : sProp 𝕄 :=
  iprop(Gm m c 126 ∗ semVal (barCell c) 0 ∗ xAt m c ∗ accAt fullShare.right.right c (acc m 3 c) ∗ Yz m c 2 12 ∗ V84 c ∗ V85 c
    ∗ outAt fullShare c (own c 0) (Out m) ∗ outAt fullShare c (own c 1) (Out m))

/-- Before step 42 nothing is held of the second phase. -/
theorem Gm_start (c : Dev nD) : Gh m c 42 ⊢ Gm m c 42 := by
  unfold Gm
  rw [hS_start.1, hS_start.2, BI.bigSep_empty, BI.bigSep_empty]
  iintro H
  isplitl [H]; · iexact H
  isplitr
  · iempintro
  · iempintro

set_option maxHeartbeats 4000000 in
/-- The body, from its start to its stop. -/
theorem sound_body (c : Dev nD) {Q : PUnit → sProp 𝕄} :
    Start m c ⊢ iprop((Stop m c -∗ Q ⟨⟩) -∗ WP (F := F) c (args (cc0_body (F := F))) Q) := by
  simp only [args, cc0_body_eq_skeleton]
  unfold cc0_body_skel
  unfold Start
  iintro ⟨#HR, HO, ⟨Ht0, Ht3, Ht1, Ht2⟩, ⟨Hp0, Hp1, Hp2⟩, HG0, Hat, Hcr, Hx, Ha, Hy, Hv4, Hv5, Ho0, Ho1⟩ Hk
  iapply (bindw c)
  iapply (part1_wand c)
  iintro %r %hr
  obtain ⟨d0, v2, v5, v8, v19, v31, v33, v34, c2_i32_18⟩ := r
  obtain rfl : c = d0 := hr.symm
  iapply (bindw c)
  iapply (part2 m c _ _ _ _ _ _ _ _) $$ [HO Ht0 Hp0 Ht3 Ht1 Hp1]
  · isplitr; · iexact HR
    isplitl [HO]; · iexact HO
    isplitl [Ht0]; · iexact Ht0
    isplitl [Hp0]; · iexact Hp0
    isplitl [Ht3]; · iexact Ht3
    isplitl [Ht1]; · iexact Ht1
    iexact Hp1
  iintro %r %hr HO
  obtain ⟨v36, v39, v40, v41, v65, v66⟩ := r
  obtain rfl : v41 = (SemArray.scalar (sig.barrier 0 rfl) : Sems sig S_) := hr
  iapply (bindw c)
  iapply (part3 m c _ _ _ _ _ _ _) $$ [HO Ht2 Hp2 HG0 Hat Hcr Hx Ha Hv4]
  · isplitr; · iexact HR
    isplitl [HO]; · iexact HO
    isplitl [Ht2]; · iexact Ht2
    isplitl [Hp2]; · iexact Hp2
    isplitl [HG0]; · iexact HG0
    isplitl [Hat]; · iexact Hat
    isplitl [Hcr]; · iexact Hcr
    isplitl [Hx]; · iexact Hx
    isplitl [Ha]; · iexact Ha
    iexact Hv4
  iintro %r ⟨HG, Hb, Hx, Ha, Hv4⟩
  obtain ⟨v86, v87, v88⟩ := r
  ihave Ha := (acc_halves fullShare c (acc m 0 c)).1 $$ Ha
  icases Ha with ⟨Ha0, Ha1⟩
  ihave Ha0 := (half_subs c 0 0 1 rfl rfl (acc m 0 c)).1 $$ Ha0
  icases Ha0 with ⟨H0, H1⟩
  ihave Ha1 := (half_subs c 1 2 3 rfl rfl (acc m 0 c)).1 $$ Ha1
  icases Ha1 with ⟨H2, H3⟩
  iapply (bindw c)
  iapply (part4 m c _ _ _) $$ HG H0 H1 H2
  iintro %r HG
  iapply (bindw c)
  iapply (part5 m c _ _ _ _ _) $$ HG H3 Hx Hv5 Hy
  iintro %r HG Hx Hv5 HY
  iapply (bindw c)
  iapply (part6 m c _ _ _) $$ HG HY
  iintro %r HG H0 HY
  iapply (bindw c)
  iapply (part7 m c _ _ _ _) $$ HG H0
  iintro %r HG H1 HR
  iapply (bindw c)
  iapply (part8 m c _ _ _) $$ HG HR H1 HY
  iintro %r HG HY H2
  iapply (bindw c)
  iapply (part9 m c _ _ _) $$ HG H2 HY
  iintro %r HG H2 HY
  iapply (bindw c)
  iapply (part10 m c _ _ _) $$ HG H2 HY
  iintro %r HG H3 HY
  iapply (bindw c)
  iapply (part11 m c _ _ _ _ _) $$ HG H3 Hx Hv4 HY
  iintro %r HG Hx Hv4 HY
  iapply (bindw c)
  iapply (part12 m c _ _ _) $$ HG HY
  iintro %r HG H0 HY
  obtain ⟨v347, c0_i32_314⟩ := r
  iapply (bindw c)
  iapply (part13 m c _ _ _ _ _) $$ HG H0
  iintro %r HG H1 HR
  iapply (bindw c)
  iapply (part14 m c _ _ _) $$ HG HR H1 HY
  iintro %r HG HY H2
  iapply (bindw c)
  iapply (part15 m c _ _ _ _) $$ HG H2 HY
  iintro %r HG H2 HY
  iapply (bindw c)
  iapply (part16 m c _ _ _) $$ HG H2 HY
  iintro %r HG H3 HY
  iapply (bindw c)
  iapply (part17 m c _ _ _ _ _) $$ HG H3 Hx Hv5 HY
  iintro %r HG Hx Hv5 HY
  iapply (bindw c)
  iapply (part18 m c _ _ _) $$ HG HY
  iintro %r HG H0 HY
  iapply (bindw c)
  iapply (part19 m c _ _ _ _ _ _) $$ HG HY
  iintro %r HG H1 HY
  obtain ⟨v538, v539⟩ := r
  ihave HF := (subs_firsts m c 0 0 1 rfl rfl) $$ [H0 H1]
  · isplitl [H0]; · iexact H0
    iexact H1
  icases HF with ⟨Fxy000, Fxy001, Fag00, Hr0⟩
  iapply (bindw c)
  iapply (part20 m c _ _ _ _ _ _ _ _ _) $$ HG Fxy000 Fxy001
  iintro %r HG
  iapply (bindw c)
  iapply (part21 m c _ _ _) $$ HG Fag00 HY
  iintro %r %he HG H2 HY
  obtain ⟨v598, v599⟩ := r
  iapply (bindw c)
  iapply (part22 m c _ _ _ _ _ _ he) $$ HG H2 HY
  iintro %r HG H2 H3 HY
  ihave HF := (subs_firsts m c 1 2 3 rfl rfl) $$ [H2 H3]
  · isplitl [H2]; · iexact H2
    iexact H3
  icases HF with ⟨Fxy010, Fxy011, Fag01, Hr1⟩
  iapply (bindw c)
  iapply (part23 m c _ _ _ _ _ _ _ _) $$ HG Fxy010 Fxy011
  iintro %r HG
  ihave Hq := (acc_halves fullShare.right.right c (acc m 3 c)).2 $$ [Hr0 Hr1]
  · isplitl [Hr0]; · iexact Hr0
    iexact Hr1
  iapply (bindw c)
  iapply (part24 m c _ _ _ _ _ _ _) $$ HG Fag01 Hq [Ho0 Ho1] Hv4
  · isplitl [Ho0]; · iexact Ho0
    iexact Ho1
  iintro %r HG Hq Ho Hv4
  icases Ho with ⟨Ho0, Ho1⟩
  ihave HG := (Gm_start m c) $$ HG
  iapply (beside c (B := Gm m c 126) ?_) $$ HG
  swap
  · iintro %r HG
    iapply Hk
    unfold Stop
    isplitl [HG]; · iexact HG
    isplitl [Hb]; · iexact Hb
    isplitl [Hx]; · iexact Hx
    isplitl [Hq]; · iexact Hq
    isplitl [HY]; · iexact HY
    isplitl [Hv4]; · iexact Hv4
    isplitl [Hv5]; · iexact Hv5
    isplitl [Ho0]; · iexact Ho0
    iexact Ho1
  refine bindw' c (part25 m c _ _ _ _ _ fun v722 => ?_)
  refine bindw' c (part26 m c _ _ _ _ _ _ fun _ => ?_)
  refine bindw' c (part27 m c _ _ _ _ _ _ _ fun _ => ?_)
  refine bindw' c (part28 m c _ _ _ fun ⟨v805, v819, v820⟩ => ?_)
  refine bindw' c (part29 m c _ _ _ _ _ _ _ _ fun ⟨v851, c512_i32_778⟩ => ?_)
  refine bindw' c (part30 m c _ _ _ _ _ _ _ fun ⟨v880, v881, v882, v885⟩ => ?_)
  refine bindw' c (part31 m c _ _ _ _ _ _ _ _ fun v890 => ?_)
  refine bindw' c (part32 m c _ _ _ _ _ fun ⟨v949, c1_i32_852⟩ => ?_)
  refine bindw' c (part33 m c _ _ _ _ _ _ _ _ fun ⟨v982, c4_i32_876⟩ => ?_)
  refine bindw' c (part34 m c _ _ _ _ _ _ fun ⟨v1004, v1016, c4_i32_900⟩ => ?_)
  refine bindw' c (part35 m c _ _ _ _ _ _ _ _ _ fun v1050 => ?_)
  refine bindw' c (part36 m c _ _ _ _ _ _ fun ⟨v1079, v1080, v1081, v1082, v1083⟩ => ?_)
  refine bindw' c (part37 m c _ _ _ _ _ _ _ _ _ _ _ fun v1089 => ?_)
  refine bindw' c (part38 m c _ _ _ _ _ _ _ fun v1147 => ?_)
  refine bindw' c (part39 m c _ _ _ _ _ fun ⟨v1179, v1181, c4_i32_1018⟩ => ?_)
  refine bindw' c (part40 m c _ _ _ _ _ _ _ fun ⟨v1213, c1_i32_1043⟩ => ?_)
  refine bindw' c (part41 m c _ _ _ _ _ _ _ _ _ _ fun _ => ?_)
  refine bindw' c (part42 m c _ _ _ fun v1262 => ?_)
  refine bindw' c (part43 m c _ _ _ _ _ _ _ _ fun v1313 => ?_)
  refine bindw' c (part44 m c _ _ _ _ fun _ => ?_)
  refine bindw' c (part45 m c  fun _ => ?_)
  refine bindw' c (part46 m c  fun _ => ?_)
  refine bindw' c (part47 m c _ _ _ _ fun v1416 => ?_)
  refine bindw' c (part48 m c _ _ _ _ _ _ fun v1445 => ?_)
  refine bindw' c (part49 m c _ _ _ _ _ _ fun ⟨v1473, v1474⟩ => ?_)
  refine bindw' c (part50 m c _ _ _ _ _ _ _ fun ⟨v1503, c1_i32_1313⟩ => ?_)
  simp only [Prog.lift, Prog.bind_op, Prog.bind_ret, Prog.pure_eq_ret, Prog.bind_assoc]
  refine step (wr_out m c (t := .p2 3 1) rfl (by decide) rfl credit_out) ?_
  exact fin c .rfl

end Cert.KernelIdeal.AllReduce

end
-- ==== Proof.Ends.lean ====
module

public import proofs.«01_k».proof.Proof.Body

@[expose] public section

/-! # What a device holds at the start and at the end, put together from the pieces. -/

set_option maxRecDepth 20000

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

/-! ## The result by its blocks -/

/-- The transfers that bring a block of the result. -/
abbrev nonZ : Finset Tr := Finset.univ.filter fun t : Tr => t.isZ = false

/-- The result is its 32 blocks. -/
theorem out_blocks (c : Dev nD) (f : S16384x1024.Idx → Elt F .f32) :
    ((c : Thread nD τ).loc main_v1 ↦{fullShare} f : sProp 𝕄) = bigSep Finset.univ fun b : Fin 32 => outAt fullShare c b f := by
  have hu : (Finset.univ : Finset S16384x1024.Idx) = (Finset.univ : Finset (Fin 32)).biUnion fun b => (outV b).view.set := by
    refine (Finset.eq_univ_of_forall fun i => ?_).symm
    have hi : (i 0).val < 16384 := (i 0).isLt
    rw [Finset.mem_biUnion]
    refine ⟨⟨(i 0).val / 512, by omega⟩, Finset.mem_univ _, ?_⟩
    rw [mem_out]
    dsimp only
    omega
  have hd : ∀ b ∈ (Finset.univ : Finset (Fin 32)), ∀ b' ∈ (Finset.univ : Finset (Fin 32)), b ≠ b' →
      Disjoint (outV b).view.set (outV b').view.set := fun b _ b' _ hb => by
    refine Finset.disjoint_left.mpr fun i h h' => hb (Fin.ext ?_)
    rw [mem_out] at h h'
    omega
  have e := pointsTo_biUnion (Ix := Unit) (Name := ℕ) (U := UU) (Lvl := ℕ) (ℓ := (c : Thread nD τ).loc main_v1) (q := fullShare) (f := f)
    Finset.univ (fun b : Fin 32 => (outV b).view.set) hd
  rw [← hu] at e
  exact e

/-- All blocks: those that come, and the two the device finishes itself. -/
theorem out_parts (c : Dev nD) (Φ : Fin 32 → sProp 𝕄) :
    bigSep Finset.univ Φ = iprop(bigSep nonZ (fun t => Φ (t.dst c)) ∗ (Φ (own c 0) ∗ Φ (own c 1))) := by
  have hinj : Set.InjOn (fun t : Tr => t.dst c) (nonZ : Finset Tr) := fun t ht t' ht' h =>
    dst_inj c t t' (Finset.mem_filter.mp (Finset.mem_coe.mp ht)).2 (Finset.mem_filter.mp (Finset.mem_coe.mp ht')).2 h
  have hd : Disjoint (nonZ.image fun t => t.dst c) {own c 0, own c 1} := by
    refine Finset.disjoint_left.mpr fun b h h' => ?_
    obtain ⟨t, ht, rfl⟩ := Finset.mem_image.mp h
    rcases Finset.mem_insert.mp h' with h' | h'
    · exact dst_ne_own c t 0 (Finset.mem_filter.mp ht).2 h'
    · exact dst_ne_own c t 1 (Finset.mem_filter.mp ht).2 (Finset.mem_singleton.mp h')
  rw [blocks_split c, bigSep_cup hd, bigSep_image_of_injOn hinj, bigSep_ins (by rw [Finset.mem_singleton]; exact own_ne c), bigSep_singleton]

/-- All transfers: those of the reduction, and the others. -/
theorem tr_parts (Φ : Tr → sProp 𝕄) :
    bigSep Finset.univ Φ = iprop(bigSep Finset.univ (fun p : Fin 3 × Fin 4 => Φ (.z p.1 p.2)) ∗ bigSep nonZ Φ) := by
  have hu : (Finset.univ : Finset Tr) = (Finset.univ : Finset (Fin 3 × Fin 4)).image (fun p => Tr.z p.1 p.2) ∪ nonZ := by decide
  have hd : Disjoint ((Finset.univ : Finset (Fin 3 × Fin 4)).image fun p => Tr.z p.1 p.2) nonZ := by decide
  have hinj : Set.InjOn (fun p : Fin 3 × Fin 4 => Tr.z p.1 p.2) (Finset.univ : Finset (Fin 3 × Fin 4)) := by
    rintro ⟨a, b⟩ - ⟨a', b'⟩ - h
    cases h; rfl
  rw [hu, bigSep_cup hd, bigSep_image_of_injOn hinj]

/-- All transfers, by the neighbour they go to. -/
theorem tr_dirs (Φ : Tr → sProp 𝕄) :
    bigSep Finset.univ Φ = iprop((bigSep (Finset.univ.filter fun t : Tr => t.dir = 0) Φ ∗ bigSep (Finset.univ.filter fun t : Tr => t.dir = 1) Φ)
      ∗ bigSep (Finset.univ.filter fun t : Tr => t.dir = 2) Φ) := by
  have hu : (Finset.univ : Finset Tr) = ((Finset.univ.filter fun t : Tr => t.dir = 0) ∪ (Finset.univ.filter fun t : Tr => t.dir = 1))
      ∪ (Finset.univ.filter fun t : Tr => t.dir = 2) := by decide
  have h1 : Disjoint (Finset.univ.filter fun t : Tr => t.dir = 0) (Finset.univ.filter fun t : Tr => t.dir = 1) := by decide
  have h2 : Disjoint ((Finset.univ.filter fun t : Tr => t.dir = 0) ∪ (Finset.univ.filter fun t : Tr => t.dir = 1)) (Finset.univ.filter fun t : Tr => t.dir = 2) := by decide
  exact (congrArg (fun s => bigSep s Φ) hu).trans ((bigSep_cup h2 _).trans (by rw [bigSep_cup h1]))

/-! ## The landing slots of the reduction -/

/-- The landing slots are the whole array of the slots. -/
theorem slots_univ : (Finset.univ : Finset S3x4x256x1024.Idx) = (Finset.univ : Finset (Fin 3 × Fin 4)).biUnion fun p => (slotV p.1 p.2).view.set := by
  refine (Finset.eq_univ_of_forall fun i => ?_).symm
  rw [Finset.mem_biUnion]
  exact ⟨(⟨(i 0).val, (i 0).isLt⟩, ⟨(i 1).val, (i 1).isLt⟩), Finset.mem_univ _, (mem_slot _ _ _).mpr ⟨rfl, rfl⟩⟩
/-- Two different landing slots have no entry in common. -/
theorem slots_disj : ∀ p ∈ (Finset.univ : Finset (Fin 3 × Fin 4)), ∀ p' ∈ (Finset.univ : Finset (Fin 3 × Fin 4)), p ≠ p' →
    Disjoint (slotV p.1 p.2).view.set (slotV p'.1 p'.2).view.set := fun p _ p' _ hp => by
  refine Finset.disjoint_left.mpr fun i h h' => hp ?_
  rw [mem_slot] at h h'
  exact Prod.ext (Fin.ext (h.1.symm.trans h'.1)) (Fin.ext (h.2.symm.trans h'.2))

/-- The array of the slots, as its slots. -/
theorem slots_in (c : Dev nD) (f : S3x4x256x1024.Idx → Elt F .f32) :
    ((c : Thread nD τ).loc cc0_scratch0 ↦{fullShare} f : sProp 𝕄) ⊢ bigSep Finset.univ fun p : Fin 3 × Fin 4 => Land c (.z p.1 p.2) := by
  have e := pointsTo_biUnion (Ix := Unit) (Name := ℕ) (U := UU) (Lvl := ℕ) (ℓ := (c : Thread nD τ).loc cc0_scratch0) (q := fullShare) (f := f)
    Finset.univ (fun p : Fin 3 × Fin 4 => (slotV p.1 p.2).view.set) slots_disj
  rw [← slots_univ] at e
  refine (Entails.of_eq e).trans (BI.bigSep_mono fun p _ => ?_)
  show _ ⊢ iprop(∃ f, slotAt c p.1 p.2 f)
  refine (Entails.of_eq (show _ = slotAt c p.1 p.2 f from rfl)).trans ?_
  iintro H
  iexists f
  iexact H

/-- The slots, as their array. -/
theorem slots_out (c : Dev nD) (f₀ : S3x4x256x1024.Idx → Elt F .f32) :
    (bigSep Finset.univ fun p : Fin 3 × Fin 4 => (Land c (.z p.1 p.2) : sProp 𝕄))
      ⊢ iprop(∃ f : S3x4x256x1024.Idx → Elt F .f32, (c : Thread nD τ).loc cc0_scratch0 ↦{fullShare} f) := by
  have h : (bigSep Finset.univ fun p : Fin 3 × Fin 4 => (Land c (.z p.1 p.2) : sProp 𝕄))
      ⊢ iprop(∃ fs : (p : Fin 3 × Fin 4) → S3x4x256x1024.Idx → Elt F .f32, bigSep Finset.univ fun p => slotAt c p.1 p.2 (fs p)) :=
    haveI : Nonempty (S3x4x256x1024.Idx → Elt F .f32) := ⟨f₀⟩
    BI.bigSep_exists_pi Finset.univ fun (p : Fin 3 × Fin 4) (f : S3x4x256x1024.Idx → Elt F .f32) => (slotAt c p.1 p.2 f : sProp 𝕄)
  refine h.trans ?_
  iintro ⟨%fs, H⟩
  have e := pointsTo_biUnion_join (Ix := Unit) (Name := ℕ) (U := UU) (Lvl := ℕ) (ℓ := (c : Thread nD τ).loc cc0_scratch0) (q := fullShare)
    Finset.univ (fun p : Fin 3 × Fin 4 => (slotV p.1 p.2).view.set) fs (fs (0, 0)) slots_disj
  rw [← slots_univ] at e
  ihave H := (show (bigSep Finset.univ fun p : Fin 3 × Fin 4 => (slotAt c p.1 p.2 (fs p) : sProp 𝕄)) ⊢ _ from e) $$ H
  icases H with ⟨%g, -, H⟩
  iexists g
  iexact H

/-- After all twelve additions, all slots have been used. -/
theorem Lz_all (c : Dev nD) : (Lz c 12 : sProp 𝕄) = bigSep Finset.univ fun p : Fin 3 × Fin 4 => Land c (.z p.1 p.2) := by
  unfold Lz
  rw [show (Finset.univ.filter fun p : Fin 3 × Fin 4 => 4 * p.1.val + p.2.val < 12) = Finset.univ from by decide]

/-! ## At the start -/

/-- A device's result and landing slots, as it lends them to its neighbours and keeps its own chunk. -/
theorem mem_start (c : Dev nD) (f : S16384x1024.Idx → Elt F .f32) (g : S3x4x256x1024.Idx → Elt F .f32) :
    iprop(((c : Thread nD τ).loc main_v1 ↦{fullShare} f) ∗ ((c : Thread nD τ).loc cc0_scratch0 ↦{fullShare} g))
      ⊢ (iprop((barPay (zl c) 0 ∗ barPay (xp c) 1 ∗ barPay (yp c) 2) ∗ (∃ f, outAt fullShare c (own c 0) f) ∗ (∃ f, outAt fullShare c (own c 1) f)) : sProp 𝕄) := by
  have h0 : (barPay (zl c) 0 : sProp 𝕄) = _ := barPay_to c 0
  have h1 : (barPay (xp c) 1 : sProp 𝕄) = _ := barPay_to c 1
  have h2 : (barPay (yp c) 2 : sProp 𝕄) = _ := barPay_to c 2
  have hz : (bigSep nonZ (fun t => outAt fullShare c (t.dst c) f) : sProp 𝕄) ⊢ bigSep nonZ fun t => Land c t := BI.bigSep_mono fun t ht => by
    rw [Land_out c (Finset.mem_filter.mp ht).2]
    show (outAt fullShare c (t.dst c) f : sProp 𝕄) ⊢ iprop(∃ f, outAt fullShare c (t.dst c) f)
    iintro H
    iexists f
    iexact H
  have hall := (tr_parts (F := F) (fun t => Land c t)).symm.trans (tr_dirs fun t => Land c t)
  rw [h0, h1, h2, out_blocks, out_parts c]
  iintro ⟨⟨Hb, H0, H1⟩, Hs⟩
  ihave Hb := hz $$ Hb
  ihave Hs := (slots_in c g) $$ Hs
  ihave H := (Entails.of_eq hall) $$ [Hs Hb]
  · isplitl [Hs]; · iexact Hs
    iexact Hb
  icases H with ⟨⟨Ha, Hb⟩, Hc⟩
  isplitl [Ha Hb Hc]
  · isplitl [Ha]; · iexact Ha
    isplitl [Hb]; · iexact Hb
    iexact Hc
  isplitl [H0]
  · iexists f; iexact H0
  · iexists f; iexact H1

/-! ## At the end -/

/-- The sources of the first transfers. -/
theorem firsts_eq (c : Dev nD) : (bigSep (Finset.univ.filter fun t : Tr => t.first = true) (SPay m c) : sProp 𝕄)
    = iprop(First m c (.xy 0 0 0) ∗ First m c (.xy 0 0 1) ∗ First m c (.ag 0 0) ∗ First m c (.xy 0 1 0) ∗ First m c (.xy 0 1 1) ∗ First m c (.ag 0 1)) := by
  have e : (bigSep (Finset.univ.filter fun t : Tr => t.first = true) (SPay m c) : sProp 𝕄) = bigSep (Finset.univ.filter fun t : Tr => t.first = true) (First m c) :=
    BI.bigSep_congr fun t ht => SPay_half m c (Finset.mem_filter.mp ht).2
  rw [e, bigSep_eq_bigSepL_of_eq [Tr.xy 0 0 0, .xy 0 0 1, .ag 0 0, .xy 0 1 0, .xy 0 1 1, .ag 0 1] (by decide) (by decide)]
  rfl

/-- The pieces of a half of the accumulator, joined. -/
theorem half_back (c : Dev nD) (i : Fin 2) :
    iprop(First m c (.xy 0 i 0) ∗ First m c (.xy 0 i 1) ∗ First m c (.ag 0 i) ∗ halfAt fullShare.right.right c i (acc m 3 c)) ⊢ halfAt fullShare c i (acc m 3 c) :=
  BI.sep_assoc'.trans (half_firsts m c i).2

/-- The sources given back and the rest of the blocks that came: the accumulator's pieces, and all those blocks. -/
theorem blocks_back (c : Dev nD) :
    iprop(bigSep nonZ (SPay m c) ∗ bigSep nonZ (Left m c))
      ⊢ iprop(bigSep (Finset.univ.filter fun t : Tr => t.first = true) (SPay m c) ∗ bigSep nonZ (fun t => outAt fullShare c (t.dst c) (Out m))) := by
  have hd : Disjoint (Finset.univ.filter fun t : Tr => t.first = true) (nonZ.biUnion Tr.fwd) := by
    rw [Finset.disjoint_biUnion_right]
    refine fun t _ => Finset.disjoint_left.mpr fun t' h h' => ?_
    have := (fwd_not_first t t' h').1
    rw [(Finset.mem_filter.mp h).2] at this
    cases this
  have e := BI.bigSep_biUnion_eq nonZ Tr.fwd (SPay m c) (fun t _ t' _ h => fwd_disjoint t t' h)
  have e2 : (bigSep nonZ (SPay m c) : sProp 𝕄) = iprop(bigSep (Finset.univ.filter fun t : Tr => t.first = true) (SPay m c) ∗ bigSep nonZ fun t => bigSep t.fwd (SPay m c)) := by
    rw [← e]
    exact (congrArg (fun s => bigSep s (SPay m c)) split_fwd).trans (bigSep_cup hd _)
  have e3 : iprop(bigSep nonZ (Left m c) ∗ bigSep nonZ fun t => bigSep t.fwd (SPay m c)) ⊢ bigSep nonZ (fun t => outAt fullShare c (t.dst c) (Out m)) := by
    rw [← bigSep_sep']
    refine BI.bigSep_mono fun t ht => ?_
    rw [← RPay_out m c (Finset.mem_filter.mp ht).2]
    exact (RPay_split m c t (Finset.mem_filter.mp ht).2).2
  rw [e2]
  iintro ⟨⟨Hf, Hs⟩, Hl⟩
  isplitl [Hf]; · iexact Hf
  iapply e3
  isplitl [Hl]; · iexact Hl
  iexact Hs

/-- The counters of all transfers' semaphores at zero. -/
def EndSems (c : Dev nD) : sProp 𝕄 :=
  iprop((bigSep Finset.univ fun t : Tr => semVal (sCell c t) 0) ∗ bigSep Finset.univ fun t : Tr => semVal (rCell c t) 0)

/-- After the last step a device owes nothing, and all its transfers' counters are at zero. -/
theorem Gh_end (c : Dev nD) : Gh m c 126 ⊢ iprop((∃ W, owes (c : Thread nD τ) 0 W) ∗ EndSems c) := by
  unfold Gh EndSems
  obtain ⟨h1, h2, h3⟩ := sets_end
  rw [h1, h2, h3, Finset.compl_empty, show debt c ∅ = 0 from Finset.sum_empty]
  iintro ⟨-, HO, -, -, -, -, Hs, Hr⟩
  isplitl [HO]; · iexact HO
  isplitl [Hs]; · iexact Hs
  iexact Hr

/-- What the body ends with, whole: every buffer, and every counter at zero. -/
theorem stop_whole (c : Dev nD) (f₀ : S3x4x256x1024.Idx → Elt F .f32) : Stop m c ⊢ iprop((∃ W, owes (c : Thread nD τ) 0 W) ∗ (EndSems c ∗ V84 c ∗ V85 c) ∗ semVal (barCell c) 0
    ∗ xAt m c ∗ ((c : Thread nD τ).loc main_v1 ↦{fullShare} Out m)
    ∗ (∃ f : S3x4x256x1024.Idx → Elt F .f32, (c : Thread nD τ).loc cc0_scratch0 ↦{fullShare} f) ∗ (∃ f, accAt fullShare c f) ∗ (∃ f, yAt c f)) := by
  unfold Stop Gm
  rw [held_end.1, held_end.2, out_blocks, out_parts c]
  iintro ⟨⟨HG, Hs, Hl⟩, Hb, Hx, Hq, HY, Hv4, Hv5, Ho0, Ho1⟩
  ihave HG := (Gh_end m c) $$ HG
  icases HG with ⟨HO, HE⟩
  ihave HF := (blocks_back m c) $$ [Hs Hl]
  · isplitl [Hs]; · iexact Hs
    iexact Hl
  icases HF with ⟨HF, Hblk⟩
  ihave HF := (Entails.of_eq (firsts_eq m c)) $$ HF
  icases HF with ⟨H00, H01, Ha0, H10, H11, Ha1⟩
  ihave Hq := (acc_halves fullShare.right.right c (acc m 3 c)).1 $$ Hq
  icases Hq with ⟨Hq0, Hq1⟩
  ihave Hh0 := (half_back m c 0) $$ [H00 H01 Ha0 Hq0]
  · isplitl [H00]; · iexact H00
    isplitl [H01]; · iexact H01
    isplitl [Ha0]; · iexact Ha0
    iexact Hq0
  ihave Hh1 := (half_back m c 1) $$ [H10 H11 Ha1 Hq1]
  · isplitl [H10]; · iexact H10
    isplitl [H11]; · iexact H11
    isplitl [Ha1]; · iexact Ha1
    iexact Hq1
  ihave HY := (Yz_elim m c 2 12) $$ HY
  icases HY with ⟨Hy, HL⟩
  ihave HL := (Entails.of_eq (Lz_all (F := F) c)) $$ HL
  ihave HL := (slots_out (F := F) c f₀) $$ HL
  isplitl [HO]; · iexact HO
  isplitl [HE Hv4 Hv5]
  · isplitl [HE]; · iexact HE
    isplitl [Hv4]; · iexact Hv4
    iexact Hv5
  isplitl [Hb]; · iexact Hb
  isplitl [Hx]; · iexact Hx
  isplitl [Hblk Ho0 Ho1]
  · isplitl [Hblk]; · iexact Hblk
    isplitl [Ho0]; · iexact Ho0
    iexact Ho1
  isplitl [HL]; · iexact HL
  isplitl [Hh0 Hh1]
  · iexists (acc m 3 c)
    iapply (acc_halves fullShare c (acc m 3 c)).2
    isplitl [Hh0]; · iexact Hh0
    iexact Hh1
  iexists (xch m c (c.val % 4 + 3 - 2))
  iexact Hy

end Cert.KernelIdeal.AllReduce

end
-- ==== Proof.Launch.lean ====
module

public import proofs.«01_k».proof.Proof.Ends
public import Idealize.ShloMosaic.Lib.Pipeline.CollectiveSegs
public import Idealize.ShloMosaic.Lib.Quiescent

@[expose] public section

/-! # The run of all sixteen devices. -/

set_option maxRecDepth 20000

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

open Idealize.ShloMosaic.Pipeline (Dat BodyObligation)

/-! ## Semaphores at the launch -/

/-- The kernel's own semaphores: all its DMA semaphores. -/
abbrev osem : DmaSem sig → SemLoc sig := fun q => .dma q

/-- The DMA semaphores are the kernel's own. -/
theorem ownSemFacts : Pipeline.OwnSemFacts cfg0.spec osem where
  isScoped := by decide +kernel
  inj := fun a b h => by injection h
  disj := fun _ w => w.elim0

/-- The DMA semaphores are those of the transfers' ends and the two of the local copies. -/
theorem ends_univ : (Finset.univ : Finset (DmaSem sig)) = (Finset.univ : Finset (Tr × Bool)).image endSem ∪ {⟨84, by decide⟩, ⟨85, by decide⟩} := by
  decide +kernel

/-- Something for both ends of every transfer: for all senders and for all receivers. -/
theorem bool_parts (Φ : Tr × Bool → sProp 𝕄) :
    bigSep Finset.univ Φ = iprop(bigSep Finset.univ (fun t : Tr => Φ (t, false)) ∗ bigSep Finset.univ fun t : Tr => Φ (t, true)) := by
  rw [bigSep_univ_prod Φ, ← bigSep_sep']
  exact BI.bigSep_congr fun t _ => bigSep_univ_eq_bigSepL [false, true] (by decide) (by decide) fun b => Φ (t, b)

/-- The kernel's own counters at zero: those of all ends and the two of the local copies. -/
theorem ownSems0_eq (c : Dev nD) : (Pipeline.ownSems0 (Ix := Unit) (Name := ℕ) (U := UU) (Lvl := ℕ) (Val := Elt F) (τ := τ) osem c : sProp 𝕄)
    = iprop((bigSep Finset.univ fun p : Tr × Bool => semVal (endCell c p) 0) ∗ (V84 c ∗ V85 c)) := by
  have hd : Disjoint ((Finset.univ : Finset (Tr × Bool)).image endSem) {⟨84, by decide⟩, ⟨85, by decide⟩} := by decide +kernel
  unfold Pipeline.ownSems0
  rw [ends_univ, bigSep_cup hd, bigSep_image_of_injOn (fun a _ b _ h => endSem_inj h), bigSep_ins (by decide), bigSep_singleton]

/-- The other counter at zero is the barrier's. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

/-! ## What the devices owe at the launch, and the credit it deals -/

/-- What device `c` owes at the launch: every transfer it is to send, and a unit to each neighbour's barrier. -/
def O₀ (c : Dev nD) : CellTallies nD τ sig Unit := debt c Finset.univ + T1 (yp c) + T1 (xp c) + T1 (zr c) + T1 (zl c)

/-- The credit that the launch deals for the transfers, by their receivers' cells. -/
theorem cred_debt (c : Dev nD) : (Pipeline.launchCred (fun d => debt d Finset.univ) c : sProp 𝕄)
    ⊢ bigSep Finset.univ fun t : Tr => cred (tallyAt (rCell c t) () (N t)) := by
  unfold debt
  rw [Pipeline.launchCred_sum Finset.univ (fun (t : Tr) (d : Dev nD) => tallyAt (rCell (t.peer d) t) () (N t)) c]
  exact BI.bigSep_mono fun t _ => Pipeline.launchCred_tallyAt (.dma (endSem (t, true))) t.peer t.from t.peer_from t.from_peer () (N t) c

/-- The credit that the launch deals a device: for every transfer that comes to it, and four units of its barrier. -/
theorem creds (c : Dev nD) : (Pipeline.launchCred O₀ c : sProp 𝕄)
    ⊢ iprop((bigSep Finset.univ fun t : Tr => cred (tallyAt (rCell c t) () (N t))) ∗ cred (tallyAt (barCell c) () 4)) := by
  have h1 (f finv : Dev nD → Dev nD) (h : ∀ c, f (finv c) = c) (h' : ∀ c, finv (f c) = c) :
      (Pipeline.launchCred (fun d => T1 (f d)) c : sProp 𝕄) ⊢ cred (tallyAt (barCell c) () 1) :=
    Pipeline.launchCred_tallyAt (.reg barS) f finv h h' () 1 c
  have e : (Pipeline.launchCred O₀ c : sProp 𝕄) = iprop((((Pipeline.launchCred (fun d => debt d Finset.univ) c ∗ Pipeline.launchCred (fun d => T1 (yp d)) c)
      ∗ Pipeline.launchCred (fun d => T1 (xp d)) c) ∗ Pipeline.launchCred (fun d => T1 (zr d)) c) ∗ Pipeline.launchCred (fun d => T1 (zl d)) c) := by
    rw [← Pipeline.launchCred_add, ← Pipeline.launchCred_add, ← Pipeline.launchCred_add, ← Pipeline.launchCred_add]
    rfl
  have e4 : (tallyAt (barCell c) () 4 : CellTallies nD τ sig Unit) = T1 c + T1 c + T1 c + T1 c := by
    unfold T1
    rw [tallyAt_add, tallyAt_add, tallyAt_add]
  rw [e, e4]
  iintro ⟨⟨⟨⟨Hd, Hy⟩, Hx⟩, Hr⟩, Hl⟩
  isplitl [Hd]
  · iapply (cred_debt (F := F) c); iexact Hd
  iapply (cred_add _ _).2
  isplitr [Hl]
  · iapply (cred_add _ _).2
    isplitr [Hr]
    · iapply (cred_add _ _).2
      isplitr [Hx]
      · iapply (h1 yp yp yp_yp yp_yp); iexact Hy
      · iapply (h1 xp xp xp_xp xp_xp); iexact Hx
    · iapply (h1 zr zl zr_zl zl_zr); iexact Hr
  · iapply (h1 zl zr zl_zr zr_zl); iexact Hl

/-! ## The ghost state -/

/-- Different devices have different barrier cells. -/
theorem barCell_inj : Function.Injective barCell := fun a b h => congrArg (fun g : GSem nD τ sig => g.1.1) h
/-- Different ends, or ends on different devices, have different cells. -/
theorem endCell_inj : Function.Injective fun cp : Dev nD × (Tr × Bool) => endCell cp.1 cp.2 := by
  rintro ⟨c, p⟩ ⟨c', p'⟩ h
  have h1 : c = c' := congrArg (fun g : GSem nD τ sig => g.1.1) h
  have h2 : (SemLoc.dma (endSem p) : SemLoc sig) = .dma (endSem p') := congrArg Prod.snd h
  have h3 : endSem p = endSem p' := by injection h2
  rw [h1, endSem_inj h3]
/-- A barrier cell is no transfer's. -/
theorem bar_ne_end (c : Dev nD) (cp : Dev nD × (Tr × Bool)) : barCell c ≠ endCell cp.1 cp.2 := fun h => by
  have h2 : (SemLoc.reg barS : SemLoc sig) = .dma (endSem cp.2) := congrArg Prod.snd h
  cases h2

/-- The protocol's cells. -/
def kCells : Finset (GSem nD τ sig) :=
  (Finset.univ : Finset (Dev nD)).image barCell ∪ (Finset.univ : Finset (Dev nD × (Tr × Bool))).image fun cp => endCell cp.1 cp.2
/-- The duties' tokens: four at each barrier, one at each transfer's semaphore. -/
def kToks : Finset (GSem nD τ sig × ℕ × Fin 4) :=
  (Finset.univ : Finset (Dev nD × Fin 4)).image (fun cd => (barCell cd.1, 0, cd.2))
    ∪ (Finset.univ : Finset (Dev nD × (Tr × Bool))).image fun cp => (endCell cp.1 cp.2, 0, 0)

/-- Something for all cells of the protocol, device by device. -/
theorem kCells_sep (Φ : GSem nD τ sig → sProp 𝕄) : bigSep kCells Φ
    = bigSep Finset.univ fun c : Dev nD => iprop(Φ (barCell c) ∗ bigSep Finset.univ fun p : Tr × Bool => Φ (endCell c p)) := by
  have hd : Disjoint ((Finset.univ : Finset (Dev nD)).image barCell) ((Finset.univ : Finset (Dev nD × (Tr × Bool))).image fun cp => endCell cp.1 cp.2) := by
    refine Finset.disjoint_left.mpr fun g h h' => ?_
    obtain ⟨c, -, rfl⟩ := Finset.mem_image.mp h
    obtain ⟨cp, -, e⟩ := Finset.mem_image.mp h'
    exact bar_ne_end c cp e.symm
  unfold kCells
  rw [bigSep_cup hd, bigSep_image_of_injOn barCell_inj.injOn, bigSep_image_of_injOn endCell_inj.injOn, bigSep_sep',
    bigSep_univ_prod fun cp : Dev nD × (Tr × Bool) => Φ (endCell cp.1 cp.2)]

/-- Something for all duties of the protocol, device by device. -/
theorem kToks_sep (Φ : GSem nD τ sig × ℕ × Fin 4 → sProp 𝕄) : bigSep kToks Φ
    = bigSep Finset.univ fun c : Dev nD => iprop((bigSep Finset.univ fun d : Fin 4 => Φ (barCell c, 0, d)) ∗ bigSep Finset.univ fun p : Tr × Bool => Φ (endCell c p, 0, 0)) := by
  have hd : Disjoint ((Finset.univ : Finset (Dev nD × Fin 4)).image fun cd => ((barCell cd.1, 0, cd.2) : GSem nD τ sig × ℕ × Fin 4))
      ((Finset.univ : Finset (Dev nD × (Tr × Bool))).image fun cp => (endCell cp.1 cp.2, 0, 0)) := by
    refine Finset.disjoint_left.mpr fun g h h' => ?_
    obtain ⟨c, -, rfl⟩ := Finset.mem_image.mp h
    obtain ⟨cp, -, e⟩ := Finset.mem_image.mp h'
    exact bar_ne_end c.1 cp (congrArg Prod.fst e).symm
  have h1 : Function.Injective fun cd : Dev nD × Fin 4 => ((barCell cd.1, 0, cd.2) : GSem nD τ sig × ℕ × Fin 4) := fun a b h =>
    Prod.ext (barCell_inj (congrArg Prod.fst h)) (congrArg (fun x : GSem nD τ sig × ℕ × Fin 4 => x.2.2) h)
  have h2 : Function.Injective fun cp : Dev nD × (Tr × Bool) => ((endCell cp.1 cp.2, 0, 0) : GSem nD τ sig × ℕ × Fin 4) := fun a b h =>
    endCell_inj (congrArg Prod.fst h)
  unfold kToks
  rw [bigSep_cup hd, bigSep_image_of_injOn h1.injOn, bigSep_image_of_injOn h2.injOn, bigSep_sep',
    bigSep_univ_prod fun cd : Dev nD × Fin 4 => Φ (barCell cd.1, 0, cd.2),
    bigSep_univ_prod fun cp : Dev nD × (Tr × Bool) => Φ (endCell cp.1 cp.2, 0, 0)]

/-- The ghost state at the launch: all cells of the protocol, before their first round. -/
def u₀ : UU :=
  (initOf (Pipeline.cells cfgs cellOf_inj) (Pipeline.launchToks cfgs cellOf_inj), (initOf kCells kToks, 1))

/-- The tokens of device `c`'s own cells. -/
def toks (c : Dev nD) : sProp 𝕄 :=
  iprop((bigSep Finset.univ fun d : Fin 4 => dutyTok ER (barCell c) 0 d) ∗ bigSep Finset.univ fun p : Tr × Bool => dutyTok ER (endCell c p) 0 0)

/-- What the launch deals device `c`. -/
def G (c : Dev nD) : sProp 𝕄 :=
  iprop((roundState ER (Rd m) (barCell c) 0 ∗ bigSep Finset.univ fun p : Tr × Bool => roundState ER (Rd m) (endCell c p) 0)
    ∗ (reached ER (barCell c) 0 ∗ bigSep Finset.univ fun p : Tr × Bool => reached ER (endCell c p) 0)
    ∗ (atPos ER (barCell c) 0 ∅ 0 ∗ bigSep Finset.univ fun p : Tr × Bool => atPos ER (endCell c p) 0 ∅ 0) ∗ toks c)

/-- That state gives every device its share. -/
theorem fund_all : BI.own (ER (initOf kCells kToks)) ⊢ (|==> bigSep Finset.univ (G m) : sProp 𝕄) := by
  iintro HX
  imod (Rounds.fund ER (Rd m) kCells kToks) $$ HX with ⟨Hst, Hr, Hat, Htok⟩
  imodintro
  ihave Hst := (Entails.of_eq (kCells_sep fun g => roundState ER (Rd m) g 0)) $$ Hst
  ihave Hr := (Entails.of_eq (kCells_sep fun g => reached ER g 0)) $$ Hr
  ihave Hat := (Entails.of_eq (kCells_sep fun g => atPos ER g 0 ∅ 0)) $$ Hat
  ihave Htok := (Entails.of_eq (kToks_sep fun x => dutyTok ER x.1 x.2.1 x.2.2)) $$ Htok
  iapply (Entails.of_eq (show iprop((bigSep Finset.univ fun c : Dev nD => iprop(roundState ER (Rd m) (barCell c) 0 ∗ bigSep Finset.univ fun p : Tr × Bool => roundState ER (Rd m) (endCell c p) 0))
      ∗ (bigSep Finset.univ fun c : Dev nD => iprop(reached ER (barCell c) 0 ∗ bigSep Finset.univ fun p : Tr × Bool => reached ER (endCell c p) 0))
      ∗ (bigSep Finset.univ fun c : Dev nD => iprop(atPos ER (barCell c) 0 ∅ 0 ∗ bigSep Finset.univ fun p : Tr × Bool => atPos ER (endCell c p) 0 ∅ 0))
      ∗ (bigSep Finset.univ fun c : Dev nD => toks c)) = bigSep Finset.univ (G m) from by
    unfold G; rw [← bigSep_sep', ← bigSep_sep', ← bigSep_sep']))
  isplitl [Hst]; · iexact Hst
  isplitl [Hr]; · iexact Hr
  isplitl [Hat]; · iexact Hat
  unfold toks
  iexact Htok

/-- The records of device `c`'s own cells. -/
def Recs1 (c : Dev nD) : sProp 𝕄 := iprop((bigSep Finset.univ fun p : Tr × Bool => Rec m (endCell c p)) ∗ Rec m (barCell c))
/-- What stays with device `c`: its positions and its spare semaphores. -/
def keeps (c : Dev nD) : sProp 𝕄 :=
  iprop((atPos ER (barCell c) 0 ∅ 0 ∗ bigSep Finset.univ fun p : Tr × Bool => atPos ER (endCell c p) 0 ∅ 0) ∗ (V84 c ∗ V85 c))

/-- A device's counters at zero and its share become the invariants of its cells, and what it keeps. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop(Recs1 m c ∗ keeps c ∗ toks c) := by
  have hend : iprop((bigSep Finset.univ fun p : Tr × Bool => semVal (endCell c p) 0) ∗ bigSep Finset.univ fun p : Tr × Bool => roundState ER (Rd m) (endCell c p) 0)
      ⊢ (|={Set.univ}=> bigSep Finset.univ fun p : Tr × Bool => iprop(∃ κ : ℕ, cellInv ER (Rd m) κ (endCell c p)) : sProp 𝕄) := by
    rw [← bigSep_sep']
    exact (bigSep_mono fun p _ => (Rounds.body_intro ER (Rd m) (endCell c p)).trans inv_alloc).trans (bigSep_fupd _ _)
  have hbar : iprop(semVal (barCell c) 0 ∗ roundState ER (Rd m) (barCell c) 0)
      ⊢ (|={Set.univ}=> iprop(∃ κ : ℕ, cellInv ER (Rd m) κ (barCell c)) : sProp 𝕄) :=
    (Rounds.body_intro ER (Rd m) (barCell c)).trans inv_alloc
  rw [ownSems0_eq, unscopedSems0_eq]
  unfold G keeps Recs1
  iintro ⟨⟨Hse, HV⟩, Hsb, ⟨Hrb, Hre⟩, ⟨Hb, He⟩, Hat, Htok⟩
  imod hend $$ [Hse Hre] with Hie
  · isplitl [Hse]; · iexact Hse
    iexact Hre
  imod hbar $$ [Hsb Hrb] with Hib
  · isplitl [Hsb]; · iexact Hsb
    iexact Hrb
  imodintro
  isplitl [Hie Hib Hb He]
  · unfold Rec
    rw [bigSep_sep']
    isplitl [Hie He]
    · isplitl [Hie]; · iexact Hie
      iexact He
    · isplitl [Hib]; · iexact Hib
      iexact Hb
  isplitl [Hat HV]
  · isplitl [Hat]; · iexact Hat
    iexact HV
  iexact Htok

/-- The tokens of the duties that device `c` pays: one at each neighbour's barrier, and each transfer's two. -/
def pays (c : Dev nD) : sProp 𝕄 :=
  iprop((dutyTok ER (barCell (zl c)) 0 0 ∗ dutyTok ER (barCell (zr c)) 0 3 ∗ dutyTok ER (barCell (xp c)) 0 1 ∗ dutyTok ER (barCell (yp c)) 0 2)
    ∗ bigSep Finset.univ fun t : Tr => iprop(dutyTok ER (sCell c t) 0 0 ∗ dutyTok ER (rCell (t.peer c) t) 0 0))

/-- A device and a transfer, to the device it goes to. -/
def peerE : Dev nD × Tr ≃ Dev nD × Tr where
  toFun p := (p.2.peer p.1, p.2)
  invFun p := (p.2.from p.1, p.2)
  left_inv p := Prod.ext (p.2.from_peer p.1) rfl
  right_inv p := Prod.ext (p.2.peer_from p.1) rfl
/-- Going back along `z`, as a rearrangement of the devices. -/
def zE : Dev nD ≃ Dev nD := ⟨zl, zr, zr_zl, zl_zr⟩
/-- Crossing along `x`, as a rearrangement of the devices. -/
def xE : Dev nD ≃ Dev nD := ⟨xp, xp, xp_xp, xp_xp⟩
/-- Crossing along `y`, as a rearrangement of the devices. -/
def yE : Dev nD ≃ Dev nD := ⟨yp, yp, yp_yp, yp_yp⟩

/-- Something for every transfer that a device receives, over all devices, is something for every one that a device sends. -/
theorem recv_around (Φ : Dev nD → Tr → sProp 𝕄) : (bigSep Finset.univ fun c : Dev nD => bigSep Finset.univ fun t : Tr => Φ c t)
    = bigSep Finset.univ fun c : Dev nD => bigSep Finset.univ fun t : Tr => Φ (t.peer c) t := by
  rw [← bigSep_univ_prod (fun p : Dev nD × Tr => Φ p.1 p.2), bigSep_univ_equiv peerE, bigSep_univ_prod]
  rfl

/-- The tokens dealt to the devices that pay the duties. -/
theorem toks_around : (bigSep Finset.univ fun c : Dev nD => (toks c : sProp 𝕄)) ⊢ bigSep Finset.univ fun c : Dev nD => pays c := by
  have e4 (c : Dev nD) : (bigSep Finset.univ fun d : Fin 4 => (dutyTok ER (barCell c) 0 d : sProp 𝕄))
      = iprop(dutyTok ER (barCell c) 0 0 ∗ dutyTok ER (barCell c) 0 1 ∗ dutyTok ER (barCell c) 0 2 ∗ dutyTok ER (barCell c) 0 3) :=
    bigSep_univ_eq_bigSepL [0, 1, 2, 3] (by decide) (by decide) _
  have et (c : Dev nD) : (toks c : sProp 𝕄) = iprop((dutyTok ER (barCell c) 0 0 ∗ dutyTok ER (barCell c) 0 1 ∗ dutyTok ER (barCell c) 0 2 ∗ dutyTok ER (barCell c) 0 3)
      ∗ (bigSep Finset.univ fun t : Tr => dutyTok ER (sCell c t) 0 0) ∗ bigSep Finset.univ fun t : Tr => dutyTok ER (rCell c t) 0 0) := by
    unfold toks
    rw [e4, bool_parts]
  have ep (c : Dev nD) : (pays c : sProp 𝕄) = iprop((dutyTok ER (barCell (zl c)) 0 0 ∗ dutyTok ER (barCell (zr c)) 0 3 ∗ dutyTok ER (barCell (xp c)) 0 1 ∗ dutyTok ER (barCell (yp c)) 0 2)
      ∗ (bigSep Finset.univ fun t : Tr => dutyTok ER (sCell c t) 0 0) ∗ bigSep Finset.univ fun t : Tr => dutyTok ER (rCell (t.peer c) t) 0 0) := by
    unfold pays
    rw [bigSep_sep']
  rw [BI.bigSep_congr fun c _ => et c, BI.bigSep_congr fun c _ => ep c]
  simp only [bigSep_sep']
  rw [recv_around fun c t => (dutyTok ER (rCell c t) 0 0 : sProp 𝕄),
    bigSep_univ_equiv zE (fun c : Dev nD => (dutyTok ER (barCell c) 0 0 : sProp 𝕄)),
    bigSep_univ_equiv xE (fun c : Dev nD => (dutyTok ER (barCell c) 0 1 : sProp 𝕄)),
    bigSep_univ_equiv yE (fun c : Dev nD => (dutyTok ER (barCell c) 0 2 : sProp 𝕄)),
    bigSep_univ_equiv zE.symm (fun c : Dev nD => (dutyTok ER (barCell c) 0 3 : sProp 𝕄))]
  iintro ⟨⟨H0, H1, H2, H3⟩, Hs, Hr⟩
  isplitl [H0 H1 H2 H3]
  · isplitl [H0]; · iexact H0
    isplitl [H3]; · iexact H3
    isplitl [H1]; · iexact H1
    iexact H2
  isplitl [Hs]; · iexact Hs
  iexact Hr

/-- The records of all the cells. -/
def recsN : sProp 𝕄 :=
  iprop((bigSep Finset.univ fun cp : Dev nD × (Tr × Bool) => Rec m (endCell cp.1 cp.2)) ∗ bigSep Finset.univ fun c : Dev nD => Rec m (barCell c))
instance : BI.Persistent (recsN m) := by unfold recsN; infer_instance

/-- What the global step makes of device `c`'s share. -/
def G' (c : Dev nD) : sProp 𝕄 := iprop(recsN m ∗ keeps c ∗ pays c)

/-- The invariants are for everyone, and the duties' tokens go to those who pay them. -/
theorem regroup : (bigSep Finset.univ fun c : Dev nD => iprop(Recs1 m c ∗ keeps c ∗ toks c)) ⊢ bigSep Finset.univ (G' m) := by
  have e : (bigSep Finset.univ fun c : Dev nD => Recs1 m c) = recsN m := by
    unfold Recs1 recsN
    rw [bigSep_sep', bigSep_univ_prod fun cp : Dev nD × (Tr × Bool) => Rec m (endCell cp.1 cp.2)]
  rw [bigSep_sep', bigSep_sep', e]
  iintro ⟨#HR, Hk, Ht⟩
  ihave Ht := (toks_around (F := F)) $$ Ht
  iapply ((sep_mono_left (BI.bigSep_of_persistent Finset.univ (recsN m))).trans (Entails.of_eq (show
      iprop((bigSep Finset.univ fun _ : Dev nD => recsN m) ∗ (bigSep Finset.univ fun c : Dev nD => keeps c) ∗ bigSep Finset.univ fun c : Dev nD => pays c) = bigSep Finset.univ (G' m) from by
    unfold G'; rw [bigSep_sep', bigSep_sep'])))
  isplitr; · iexact HR
  isplitl [Hk]; · iexact Hk
  iexact Ht

/-- The global step: the counters at zero and the shares become what each device starts from. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The region's proof data -/

variable (g : Dev nD → PrngReg)

/-- The whole result of device `c`. -/
def resAt (c : Dev nD) (f : S16384x1024.Idx → Elt F .f32) : sProp 𝕄 := (c : Thread nD τ).loc main_v1 ↦{fullShare} f

/-- What device `c`'s body starts from, but for its scratch buffers. -/
def start (c : Dev nD) : sProp 𝕄 :=
  iprop((recsN m ∗ levAts L lv) ∗ keeps c ∗ pays c
    ∗ (bigSep Finset.univ fun t : Tr => cred (tallyAt (rCell c t) () (N t))) ∗ cred (tallyAt (barCell c) () 4)
    ∗ xAt m c ∗ resAt c (m ((c : Thread nD τ).loc main_v1)))
/-- Its scratch buffers, whole. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))
/-- What the body starts from. -/
def Φ₀ (c : Dev nD) : sProp 𝕄 := iprop(start m c ∗ scr c)
/-- What the body ends with. -/
def Φ₁ (c : Dev nD) : sProp 𝕄 :=
  iprop((semVal (barCell c) 0 ∗ xAt m c ∗ resAt c (Out m)) ∗ (EndSems c ∗ V84 c ∗ V85 c) ∗ scr c)

/-- The launch's record of what the body starts from and ends with. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

/-- The local chunk's buffer, whole. -/
theorem yAt_whole (c : Dev nD) (f : S1024x1024.Idx → Elt F .f32) : (yAt c f : sProp 𝕄) = ((c : Thread nD τ).loc cc0_scratch2 ↦{fullShare} f) := by
  unfold yAt
  rw [show yM.view.set = Finset.univ from View.set_whole _]

/-- What the launch hands a device is what its body starts with. -/
theorem start_in (c : Dev nD) : iprop(Φ₀ m c ∗ ∃ W, owes (c : Thread nD τ) (O₀ c) W) ⊢ Start m c := by
  unfold Φ₀ start scr keeps pays resAt Start G0 recs recsN O₀
  rw [bool_parts]
  iintro ⟨⟨⟨⟨⟨HRe, HRb⟩, Hlev⟩, ⟨⟨Hab, Has, Har⟩, Hv4, Hv5⟩, ⟨Htb, Htt⟩, Hcr, Hcb, Hx, Ho⟩, ⟨%f0, H0⟩, ⟨%f1, H1⟩, ⟨%f2, H2⟩⟩, HO⟩
  ihave Hm := (mem_start (F := F) c (m ((c : Thread nD τ).loc main_v1)) f0) $$ [Ho H0]
  · isplitl [Ho]; · iexact Ho
    iexact H0
  icases Hm with ⟨Hpay, Ho0, Ho1⟩
  isplitl [HRe HRb Hlev]
  · isplitl [HRe]; · iexact HRe
    isplitl [HRb]; · iexact HRb
    iexact Hlev
  isplitl [HO]; · iexact HO
  isplitl [Htb]; · iexact Htb
  isplitl [Hpay]; · iexact Hpay
  isplitl [Htt Has Har Hcr]
  · isplitl [Htt]; · iexact Htt
    isplitl [Has]; · iexact Has
    unfold Exp
    rw [bigSep_sep']
    isplitl [Har]; · iexact Har
    iexact Hcr
  isplitl [Hab]; · iexact Hab
  isplitl [Hcb]; · iexact Hcb
  isplitl [Hx]; · iexact Hx
  isplitl [H1]
  · iexists f1; unfold accAt; iexact H1
  isplitl [H2]
  · iexists f2; iapply (Entails.of_eq (yAt_whole (F := F) c f2).symm); iexact H2
  isplitl [Hv4]; · iexact Hv4
  isplitl [Hv5]; · iexact Hv5
  isplitl [Ho0]; · iexact Ho0
  iexact Ho1

/-- What its body ends with is what the launch takes back. -/
theorem stop_out (c : Dev nD) : Stop m c ⊢ iprop(Φ₁ m c ∗ ∃ W, owes (c : Thread nD τ) 0 W) := by
  refine (stop_whole m c (m ((c : Thread nD τ).loc cc0_scratch0))).trans ?_
  unfold Φ₁ scr resAt
  iintro ⟨HO, HE, Hb, Hx, Ho, H0, ⟨%f1, H1⟩, ⟨%f2, H2⟩⟩
  isplitr [HO]
  · isplitl [Hb Hx Ho]
    · isplitl [Hb]; · iexact Hb
      isplitl [Hx]; · iexact Hx
      iexact Ho
    isplitl [HE]; · iexact HE
    isplitl [H0]; · iexact H0
    isplitl [H1]
    · iexists f1; unfold accAt; iexact H1
    · iexists f2; iapply (Entails.of_eq (yAt_whole (F := F) c f2)); iexact H2
  · iexact HO

/-- The region's body obligation on device `c`. -/
theorem body_obligation (c : Dev nD) : BodyObligation (dats (F := F) m 0 c) (defs₀ (F := F)) 𝒱₀ () Set.univ := fun t => by
  rw [fin_N0 t]
  show iprop(Φ₀ m c ∗ (dats m 0 c).owesAt () t0_0.castSucc ∗ bigSep (Finset.univ : Finset (Fin 0)) _)
    ⊢ WP (F := F) c (args (cc0_body (F := F))) (fun _ => iprop(Φ₁ m c ∗ (dats m 0 c).owesAt () t0_0.succ ∗ bigSep (Finset.univ : Finset (Fin 0)) _))
  rw [show (Finset.univ : Finset (Fin 0)) = ∅ from rfl, BI.bigSep_empty, BI.bigSep_empty]
  unfold Dat.owesAt Pipeline.owesWithin
  rw [show (dats m 0 c).owed t0_0.castSucc = O₀ c from rfl, show (dats m 0 c).owed t0_0.succ = 0 from rfl]
  iintro ⟨H, ⟨%W, -, HO⟩, -⟩
  iapply (sound_body m c) $$ [H HO]
  · iapply (start_in m c)
    isplitl [H]; · iexact H
    iexists W; iexact HO
  iintro HS
  ihave HS := (stop_out m c) $$ HS
  icases HS with ⟨H, %W', HO⟩
  isplitl [H]; · iexact H
  isplitl [HO]
  · iexists W'
    isplitr; · ipureintro; exact fun _ _ => Or.inl trivial
    iexact HO
  · iempintro

/-! ## The launch -/

/-- What the launch deals a device, put together. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (g c) ∗ G' m c)
      ⊢ |={Set.univ}=> iprop(start m c ∗ emp) := by
  rw [Pipeline.unscopedRestP_none, unscopedRest0_eq]
  unfold G' start resAt
  iintro ⟨⟨Hx, Ho⟩, Hlev, Hcr, -, HR, Hk, Hp⟩
  ihave Hc := (creds (F := F) c) $$ Hcr
  icases Hc with ⟨Hcr, Hcb⟩
  imodintro
  isplitl
  · isplitl [HR Hlev]
    · isplitl [HR]; · iexact HR
      iexact Hlev
    isplitl [Hk]; · iexact Hk
    isplitl [Hp]; · iexact Hp
    isplitl [Hcr]; · iexact Hcr
    isplitl [Hcb]; · iexact Hcb
    isplitl [Hx]; · unfold xAt; iexact Hx
    iexact Ho
  · iempintro

/-- With the scratch buffers it is what the body starts from. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr
  iintro ⟨Hs, -, Hr⟩
  isplitl [Hs]; · iexact Hs
  iexact Hr

/-- At the end the argument, the finished result, all counters at zero and the scratch buffers are given back. -/
theorem phi1_exit (c : Dev nD) :
    (dats m 0 c).Φ (Fin.last cfg0.N) ⊢ iprop((semVal (barCell c) 0 ∗ xAt m c ∗ resAt c (Out m)) ∗ Pipeline.ownSems0 osem c ∗ Pipeline.scopedRest cfg0.spec c) := by
  rw [show (dats m 0 c).Φ (Fin.last cfg0.N) = Φ₁ m c from rfl, scopedRest0_eq, ownSems0_eq, bool_parts]
  unfold Φ₁ scr EndSems
  iintro ⟨HY, ⟨HE, HV⟩, HS⟩
  isplitl [HY]; · iexact HY
  isplitl [HE HV]
  · isplitl [HE]; · iexact HE
    iexact HV
  iexact HS

/-- The call has no pipelined window to wait for. -/
theorem waits (c : Dev nD) : (levAts L lv : sProp 𝕄) ⊢ Pipeline.cellsWaits cfgs (dats m) () 0 c :=
  Pipeline.cellsWaits_intro cfgs (dats m) () 0 c fun w => w.elim0

/-- What a device's last resources say of the final memory. -/
theorem final_read (c : Dev nD) (s' : Phys nD τ sig (Elt F)) :
    iprop((semVal (barCell c) 0 ∗ xAt m c ∗ resAt c (Out m)) ∗ emp ∗ SI s')
      ⊢ (|={Set.univ}=> iprop(⌜(s'.mem.mem ((c : Thread nD τ).loc main_v1) = Out m ∧ s'.mem.mem ((c : Thread nD τ).loc main_arg0) = xOf m c)
          ∧ ∀ sm : SemLoc sig, sm.isScoped .tc = false → s'.mem.sem ((c.tc : Thread nD τ), sm) = 0⌝ ∗ SI s') : sProp 𝕄) := by
  unfold xAt resAt
  iintro ⟨⟨Hb, Hx, Ho⟩, -, HSI⟩
  ihave H := (pointsTo_read_all (Ix := Unit) (Name := ℕ) (U := UU) (Lvl := ℕ) (Finset.univ : Finset Unit) (fun _ => (c : Thread nD τ).loc main_arg0) (fun _ => xOf m c) s') $$ [Hx HSI]
  · rw [show (Finset.univ : Finset Unit) = {()} from rfl, bigSep_singleton]
    isplitl [Hx]; · iexact Hx
    iexact HSI
  icases H with ⟨%hx, HSI⟩
  ihave H := (pointsTo_read_all (Ix := Unit) (Name := ℕ) (U := UU) (Lvl := ℕ) (Finset.univ : Finset Unit) (fun _ => (c : Thread nD τ).loc main_v1) (fun _ => Out m) s') $$ [Ho HSI]
  · rw [show (Finset.univ : Finset Unit) = {()} from rfl, bigSep_singleton]
    isplitl [Ho]; · iexact Ho
    iexact HSI
  icases H with ⟨%ho, HSI⟩
  imod (Pipeline.unscopedSems0_read (X := unscopedSems0 c) (c := c) fupd_intro s') $$ [Hb HSI] with ⟨%hs, HSI⟩
  · rw [unscopedSems0_eq]
    isplitl [Hb]; · iexact Hb
    iexact HSI
  imodintro
  isplitr
  · ipureintro; exact ⟨⟨ho () (Finset.mem_univ _), hx () (Finset.mem_univ _)⟩, hs⟩
  iexact HSI

/-- On the mesh of sixteen devices, for any float values, from any memory whose counters are zero: every weakly fair
    execution terminates, and in every final state each device's result is `Out m`, its argument is unchanged and every
    semaphore counter is zero. -/
theorem run_main : θ_run defs (onTc (τ := τ) (main (F := F))) ⟨m, fun _ => 0, g⟩
    (fun r => (∀ c : Dev nD, r.2.mem ((c : Thread nD τ).loc main_v1) = Out m ∧ r.2.mem ((c : Thread nD τ).loc main_arg0) = xOf m c) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m g main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave H := (show BI.own (embR (initOf kCells kToks, (1 : Counters))) ⊢ (iprop(BI.own (ER (initOf kCells kToks)) ∗ BI.own (((Emb.inr : Emb Counters (UB × Counters)).trans embR) 1)) : sProp 𝕄)
        from own_pair_emb embR (initOf kCells kToks) (1 : Counters)) $$ HX
      icases H with ⟨HX, -⟩
      imod (fund_all m) $$ HX with HG
      imodintro
      isplitl [HP]; · iexact HP
      iexact HG)
    (hglob := glob m)
    (hA := fun _ w => w.elim0) (hpf := fun _ k => k.elim0)
    (X := start m) (Y := fun c => iprop(semVal (barCell c) 0 ∗ xAt m c ∗ resAt c (Out m))) (Z := fun _ => iprop(emp))
    (hX := start_intro m g) (hin := phi0_intro m) (hout := phi1_exit m)
    (QY := fun c s => (s.mem ((c : Thread nD τ).loc main_v1) = Out m ∧ s.mem ((c : Thread nD τ).loc main_arg0) = xOf m c)
      ∧ ∀ sm : SemLoc sig, sm.isScoped .tc = false → s.sem ((c.tc : Thread nD τ), sm) = 0)
    (hY := final_read m)
    (hQ := fun _ h hs => ⟨fun c => (h c).2.2.1, sem_eq_zero hs fun c => (h c).2.2.2⟩)

end Cert.KernelIdeal.AllReduce

end
-- ==== Proof.Sum.lean ====
module

public import proofs.«01_k».proof.Proof.Launch
public import proofs.«01_k».proof.Proof.Gen.ReferenceIdeal.Run
public import Idealize.ShloMosaic.Lib.Layout
public import Idealize.ShloMosaic.Lib.ValueLayout
public import Idealize.ShloMosaic.Lib.Pointwise.Tactic
public import Idealize.ShloMosaic.Lib.Pointwise.Reduce

@[expose] public section

/-! # The result as a sum: of the kernel and of the reference. -/

set_option maxRecDepth 20000

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

/-! ## The argument's blocks -/

/-- The shape of the whole argument. -/
abbrev S65536x1024 : Shape := ⟨2, ![65536, 1024]⟩

/-- Row `r` of block `z` of the four blocks of 16384 rows. -/
def rowZ (z : Fin 4) (r : Fin 16384) : Fin 65536 := ⟨16384 * z.val + r.val, by have := z.isLt; have := r.isLt; omega⟩

/-- The sum, over the four blocks, of the entries at one place. -/
def Sum4 (X : S65536x1024.Idx → EReal) : S16384x1024.Idx → EReal := fun i => ∑ z : Fin 4, X (ValueIdx.ix2 (rowZ z (i 0)) (i 1))

/-- The place of a device's block among the blocks of the argument. -/
abbrev argBlk (c : Dev nD) : (b : Fin 2) → Fin (Layout.cutSize [2, 2, 4] ((![[2], []] : Fin 2 → List ℕ) b)) := Layout.meshBlock [2, 2, 4] ![[2], []] c

/-- A device's block is the one of its coordinate along `z`, across all columns. -/
theorem meshRow (c : Dev nD) : (argBlk c 0).val = c.val % 4
    ∧ (argBlk c 1).val = 0 := by revert c; decide

/-- A device's block of the argument: the block of its coordinate along `z`. -/
theorem block_at (X : S65536x1024.Idx → EReal) (c : Dev nD) (i : S16384x1024.Idx) :
    (Layout.blockN ⟨2, ![16384, 1024]⟩ ⟨2, ![65536, 1024]⟩ (Layout.meshBlock [2, 2, 4] ![[2], []] c) X : S16384x1024.Idx → EReal) i
      = X (ValueIdx.ix2 (rowZ ⟨c.val % 4, Nat.mod_lt _ (by decide)⟩ (i 0)) (i 1)) := by
  rw [Layout.blockN_apply]
  refine congrArg X (funext fun a => Fin.ext ?_)
  rw [Layout.TilesN.idx_val]
  match a with
  | ⟨0, _⟩ =>
    show (argBlk c 0).val * 16384 + (i 0).val = 16384 * (c.val % 4) + (i 0).val
    rw [(meshRow c).1, Nat.mul_comm]
  | ⟨1, _⟩ =>
    show (argBlk c 1).val * 1024 + (i 1).val = (i 1).val
    rw [(meshRow c).2, Nat.zero_mul, Nat.zero_add]

/-! ## The kernel's result is the sum -/

/-- A sum over the four, begun anywhere on the ring. -/
theorem sum_ring (f : Fin 4 → EReal) (k : ℕ) :
    f ⟨(k + 1) % 4, Nat.mod_lt _ (by decide)⟩ + f ⟨(k + 2) % 4, Nat.mod_lt _ (by decide)⟩ + f ⟨(k + 3) % 4, Nat.mod_lt _ (by decide)⟩
      + f ⟨k % 4, Nat.mod_lt _ (by decide)⟩ = ∑ z : Fin 4, f z := by
  have e (n j : ℕ) (hj : j < 4) (h : n % 4 = j) : f ⟨n % 4, Nat.mod_lt _ (by decide)⟩ = f ⟨j, hj⟩ := congrArg f (Fin.ext h)
  rw [Fin.sum_univ_four]
  have hk : k % 4 = 0 ∨ k % 4 = 1 ∨ k % 4 = 2 ∨ k % 4 = 3 := by omega
  rcases hk with h | h | h | h
  · rw [e (k + 1) 1 (by decide) (by omega), e (k + 2) 2 (by decide) (by omega), e (k + 3) 3 (by decide) (by omega), e k 0 (by decide) h]
    show f 1 + f 2 + f 3 + f 0 = f 0 + f 1 + f 2 + f 3
    ac_rfl
  · rw [e (k + 1) 2 (by decide) (by omega), e (k + 2) 3 (by decide) (by omega), e (k + 3) 0 (by decide) (by omega), e k 1 (by decide) h]
    show f 2 + f 3 + f 0 + f 1 = f 0 + f 1 + f 2 + f 3
    ac_rfl
  · rw [e (k + 1) 3 (by decide) (by omega), e (k + 2) 0 (by decide) (by omega), e (k + 3) 1 (by decide) (by omega), e k 2 (by decide) h]
    show f 3 + f 0 + f 1 + f 2 = f 0 + f 1 + f 2 + f 3
    ac_rfl
  · rw [e (k + 1) 0 (by decide) (by omega), e (k + 2) 1 (by decide) (by omega), e (k + 3) 2 (by decide) (by omega), e k 3 (by decide) h]
    rfl

variable (m : (ℓ : Loc nD τ sig) → Buf (Elt Ideal) ℓ)

/-- An entry of a chunk, when every device's block is its part of `X`. -/
theorem xch_at (X : S65536x1024.Idx → EReal) (hX : ∀ (c : Dev nD) (i : S16384x1024.Idx), xOf m c i = X (ValueIdx.ix2 (rowZ ⟨c.val % 4, Nat.mod_lt _ (by decide)⟩ (i 0)) (i 1)))
    (r : Fin 16384) (l : Fin 1024) (c : Dev nD) (k z : ℕ) (hq : c.val / 4 = r.val / 4096) (hk : k % 4 = r.val / 1024 % 4) (hz : c.val % 4 = z % 4) :
    xch m c k (ValueIdx.ix2 ⟨r.val % 1024, Nat.mod_lt _ (by decide)⟩ l) = X (ValueIdx.ix2 (rowZ ⟨z % 4, Nat.mod_lt _ (by decide)⟩ r) l) := by
  have e : rowIx c k ⟨r.val % 1024, Nat.mod_lt _ (by decide)⟩ = r := Fin.ext (by
    show 4096 * (c.val / 4) + 1024 * (k % 4) + r.val % 1024 = r.val
    omega)
  show xOf m c (ValueIdx.ix2 (rowIx c k ⟨r.val % 1024, _⟩) l) = _
  rw [hX, e]
  exact congrArg X (congrArg (fun z => ValueIdx.ix2 (rowZ z r) l) (Fin.ext hz))

/-- The kernel's result, over the extended reals, is the sum of the four blocks. -/
theorem Out_eq (X : S65536x1024.Idx → EReal) (hX : ∀ (c : Dev nD) (i : S16384x1024.Idx), xOf m c i = X (ValueIdx.ix2 (rowZ ⟨c.val % 4, Nat.mod_lt _ (by decide)⟩ (i 0)) (i 1))) :
    Out m = Sum4 X := by
  funext i
  suffices h : ∀ (r : Fin 16384) (l : Fin 1024), acc m 3 (rowDev r) (ValueIdx.ix2 ⟨r.val % 1024, Nat.mod_lt _ (by decide)⟩ l)
      = ∑ z : Fin 4, X (ValueIdx.ix2 (rowZ z r) l) from h (i 0) (i 1)
  intro r l
  have hlt := r.isLt
  have hd : (rowDev r).val = 4 * (r.val / 4096) + (r.val / 1024 + 3) % 4 := rfl
  have hzl (c : Dev nD) : (zl c).val = 4 * (c.val / 4) + (c.val % 4 + 3) % 4 := rfl
  have h1 := hzl (rowDev r)
  have h2 := hzl (zl (rowDev r))
  have h3 := hzl (zl (zl (rowDev r)))
  simp only [acc, Ideal.addf_def]
  rw [xch_at m X hX r l (zl (zl (zl (rowDev r)))) _ ((rowDev r).val + 1) (by omega) (by omega) (by omega),
    xch_at m X hX r l (zl (zl (rowDev r))) _ ((rowDev r).val + 2) (by omega) (by omega) (by omega),
    xch_at m X hX r l (zl (rowDev r)) _ ((rowDev r).val + 3) (by omega) (by omega) (by omega),
    xch_at m X hX r l (rowDev r) _ (rowDev r).val (by omega) (by omega) (by omega)]
  exact sum_ring (fun z => X (ValueIdx.ix2 (rowZ z r) l)) _

/-! ## The reference's result is the sum -/

/-- The reference's result, over the extended reals, is the sum of the four blocks. -/
theorem ref_eq (X : S65536x1024.Idx → EReal) :
    (Host.reduceAdd (F := Ideal) (φ := .f32) (shapeCast _ X Cert.ReferenceIdeal.Gen.shapeCasts_S65536x1024_S4x16384x1024) (constant (F := Ideal) Cert.ReferenceIdeal.S_ .f32 0x00000000#32)
      Cert.ReferenceIdeal.Gen.reducesTo_S4x16384x1024_S16384x1024_d0 Cert.ReferenceIdeal.Gen.h_S_ : S16384x1024.Idx → EReal) = Sum4 X := by
  funext i
  rw [Host.reduceAdd_apply, Ideal.hostReduceAdd_def, Ideal.hostReduceAdd_r3_a0]
  have h0 : (constant (F := Ideal) Cert.ReferenceIdeal.S_ .f32 0x00000000#32 (Shape.Idx.first Cert.ReferenceIdeal.Gen.h_S_) : EReal) = 0 := by
    simp only [pointwise]
  rw [h0, zero_add]
  unfold Sum4
  refine Finset.sum_congr rfl fun z _ => ?_
  refine shapeCast_apply X _ _ _ ?_
  rw [Shape.rowMajor_val_three, Shape.rowMajor_val_two]
  show (16384 * z.val + (i 0).val) * 1024 + (i 1).val = (z.val * 16384 + (i 0).val) * 1024 + (i 1).val
  rw [Nat.mul_comm 16384]

end Cert.KernelIdeal.AllReduce

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Sum
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The kernel, over the machine's floats, terminates without a fault, leaves its argument as it was and every semaphore counter at zero. -/
theorem frame_kernel : Cert.quiescent_Kernel := fun m g _ =>
  (θ_run Cert.KernelIdeal.defs _ _).mono (fun _ h => ⟨fun c => (h.1 c).2, h.2⟩) (Cert.KernelIdeal.AllReduce.run_main (F := Bits) m g)

/-- The same, over the extended reals. -/
theorem frame_kernelIdeal : Cert.quiescent_KernelIdeal := fun m g _ =>
  (θ_run Cert.KernelIdeal.defs _ _).mono (fun _ h => ⟨fun c => (h.1 c).2, h.2⟩) (Cert.KernelIdeal.AllReduce.run_main (F := Ideal) m g)

/-- The same, of the reference, which has no semaphore. -/
theorem frame_reference : Cert.quiescent_ReferenceIdeal := fun m g _ =>
  (θ_run Cert.ReferenceIdeal.defs _ _).mono (fun r h => ⟨fun c => (h c).2, sem_eq_zero_of_no_sems (by decide) r.2⟩) (Cert.ReferenceIdeal.Value.run m g)

/-- Over the extended reals, every device's result is the reference's: the sum of the four blocks. -/
theorem same_sum : Cert.algebraic_KernelIdeal_ReferenceIdeal := by
  intro m g m' g' _ hX
  have hK := Cert.KernelIdeal.AllReduce.Out_eq m (m' (((0 : Dev Cert.ReferenceIdeal.nD).tc : Thread Cert.ReferenceIdeal.nD Cert.ReferenceIdeal.τ).loc Cert.ReferenceIdeal.main_arg0))
    (fun c i => (congrFun (hX c) i).trans (Cert.KernelIdeal.AllReduce.block_at _ c i))
  refine ⟨Cert.KernelIdeal.AllReduce.Sum4 (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono (fun _ h c => ⟨(h.1 c).1.trans hK, (h.1 c).2⟩) (Cert.KernelIdeal.AllReduce.run_main (F := Ideal) m g)
  · exact (θ_run Cert.ReferenceIdeal.defs _ _).mono (fun _ h => ⟨(h 0).1.trans (Cert.KernelIdeal.AllReduce.ref_eq _), (h 0).2⟩) (Cert.ReferenceIdeal.Value.run m' g')

/-- All five claims. -/
theorem claim : Cert.Claim := ⟨Cert.Kernel.Gen.facts, Cert.KernelIdeal.Gen.facts, Cert.ReferenceIdeal.Gen.facts,
  frame_kernel, frame_kernelIdeal, frame_reference, trivial, same_sum⟩

end Cert.Proof

end
